-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x96x384x384 : Shape := ⟨4, ![4, 96, 384, 384]⟩
abbrev S384x384x384 : Shape := ⟨3, ![384, 384, 384]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S_ : Shape := ⟨0, ![]⟩
abbrev S15x384 : Shape := ⟨2, ![15, 384]⟩
abbrev S193x384 : Shape := ⟨2, ![193, 384]⟩
abbrev S208x384 : Shape := ⟨2, ![208, 384]⟩
abbrev S384x1x16 : Shape := ⟨3, ![384, 1, 16]⟩
abbrev S8x384x384 : Shape := ⟨3, ![8, 384, 384]⟩
abbrev S8x1x16 : Shape := ⟨3, ![8, 1, 16]⟩
abbrev S13x16x384 : Shape := ⟨3, ![13, 16, 384]⟩
abbrev S1x384x384 : Shape := ⟨3, ![1, 384, 384]⟩
abbrev S16x384 : Shape := ⟨2, ![16, 384]⟩
abbrev S3x384 : Shape := ⟨2, ![3, 384]⟩
abbrev S1x16 : Shape := ⟨2, ![1, 16]⟩
abbrev S1x16x384 : Shape := ⟨3, ![1, 16, 384]⟩
abbrev S1 : Shape := ⟨1, ![1]⟩
abbrev S1x1x1 : Shape := ⟨3, ![1, 1, 1]⟩
abbrev S1x1x384 : Shape := ⟨3, ![1, 1, 384]⟩
abbrev S1x1x16 : Shape := ⟨3, ![1, 1, 16]⟩
abbrev S4x96x16 : Shape := ⟨3, ![4, 96, 16]⟩

abbrev nBuf : Space → Nat
  | .hbm => 44
  | .vmem => 16
  | .smem => 0
  | _ => 0

abbrev bufTy : (tb : Table) → Fin (tcTables nBuf tb) → BufTy
  | .hbm, ⟨0, _⟩ => ⟨S4x96x384x384, .f32⟩
  | .hbm, ⟨1, _⟩ => ⟨S384x384x384, .f32⟩
  | .hbm, ⟨2, _⟩ => ⟨S384x384x384, .bf16⟩
  | .hbm, ⟨3, _⟩ => ⟨S384, .i32⟩
  | .hbm, ⟨4, _⟩ => ⟨S384x1, .i32⟩
  | .hbm, ⟨5, _⟩ => ⟨S1x384, .i32⟩
  | .hbm, ⟨6, _⟩ => ⟨S384x384, .i32⟩
  | .hbm, ⟨7, _⟩ => ⟨S384x384, .i32⟩
  | .hbm, ⟨8, _⟩ => ⟨S384x384, .i32⟩
  | .hbm, ⟨9, _⟩ => ⟨S_, .i32⟩
  | .hbm, ⟨10, _⟩ => ⟨S384x384, .i32⟩
  | .hbm, ⟨11, _⟩ => ⟨S384x384, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S384x384, .f32⟩
  | .hbm, ⟨17, _⟩ => ⟨S384x384, .f32⟩
  | .hbm, ⟨18, _⟩ => ⟨S384x384, .f32⟩
  | .hbm, ⟨19, _⟩ => ⟨S_, .f32⟩
  | .hbm, ⟨20, _⟩ => ⟨S384x384, .f32⟩
  | .hbm, ⟨21, _⟩ => ⟨S384x384, .f32⟩
  | .hbm, ⟨22, _⟩ => ⟨S384x384, .f32⟩
  | .hbm, ⟨23, _⟩ => ⟨S_, .f32⟩
  | .hbm, ⟨24, _⟩ => ⟨S_, .f32⟩
  | .hbm, ⟨25, _⟩ => ⟨S384x384, .f32⟩
  | .hbm, ⟨26, _⟩ => ⟨S384x384, .f32⟩
  | .hbm, ⟨27, _⟩ => ⟨S384x384, .f32⟩
  | .hbm, ⟨28, _⟩ => ⟨S_, .f32⟩
  | .hbm, ⟨29, _⟩ => ⟨S_, .f32⟩
  | .hbm, ⟨30, _⟩ => ⟨S384x384, .f32⟩
  | .hbm, ⟨31, _⟩ => ⟨S384x384, .f32⟩
  | .hbm, ⟨32, _⟩ => ⟨S_, .f32⟩
  | .hbm, ⟨33, _⟩ => ⟨S15x384, .f32⟩
  | .hbm, ⟨34, _⟩ => ⟨S193x384, .f32⟩
  | .hbm, ⟨35, _⟩ => ⟨S208x384, .f32⟩
  | .hbm, ⟨36, _⟩ => ⟨S193x384, .f32⟩
  | .hbm, ⟨37, _⟩ => ⟨S208x384, .f32⟩
  | .hbm, ⟨38, _⟩ => ⟨S208x384, .bf16⟩
  | .hbm, ⟨39, _⟩ => ⟨S208x384, .bf16⟩
  | .hbm, ⟨40, _⟩ => ⟨S384x384, .bf16⟩
  | .hbm, ⟨41, _⟩ => ⟨S384x384, .bf16⟩
  | .hbm, ⟨42, _⟩ => ⟨S384x1x16, .f32⟩
  | .hbm, ⟨43, _⟩ => ⟨S4x96x16, .f32⟩
  | .local _ .vmem, ⟨0, _⟩ => ⟨S8x384x384, .bf16⟩
  | .local _ .vmem, ⟨1, _⟩ => ⟨S8x384x384, .bf16⟩
  | .local _ .vmem, ⟨2, _⟩ => ⟨S208x384, .bf16⟩
  | .local _ .vmem, ⟨3, _⟩ => ⟨S208x384, .bf16⟩
  | .local _ .vmem, ⟨4, _⟩ => ⟨S384x384, .bf16⟩
  | .local _ .vmem, ⟨5, _⟩ => ⟨S384x384, .bf16⟩
  | .local _ .vmem, ⟨6, _⟩ => ⟨S8x1x16, .f32⟩
  | .local _ .vmem, ⟨7, _⟩ => ⟨S8x1x16, .f32⟩
  | .local _ .vmem, ⟨8, _⟩ => ⟨S13x16x384, .f32⟩
  | .local _ .vmem, ⟨9, _⟩ => ⟨S13x16x384, .f32⟩
  | .local _ .vmem, ⟨10, _⟩ => ⟨S13x16x384, .f32⟩
  | .local _ .vmem, ⟨11, _⟩ => ⟨S13x16x384, .f32⟩
  | .local _ .vmem, ⟨12, _⟩ => ⟨S13x16x384, .f32⟩
  | .local _ .vmem, ⟨13, _⟩ => ⟨S13x16x384, .f32⟩
  | .local _ .vmem, ⟨14, _⟩ => ⟨S13x16x384, .f32⟩
  | .local _ .vmem, ⟨15, _⟩ => ⟨S13x16x384, .f32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![48], ![false]⟩

def k0_off1 (v535 : BitVec 32) : Fin 3 → Nat :=
  let v536 : Index := Scalar.indexCast v535
  let c0_249 : Index := 0#32
  let c0_250 : Index := 0#32
  ![v536.toNat, 0, 0]

def k0_chk1 (v535 : BitVec 32) : Prop :=
  (∀ a, (k0_off1 v535) a + S1x16x384.size a ≤ S13x16x384.size a)
theorem k0_off1_inb : ∀ (v535 : BitVec 32) (k0_hw1 : k0_chk1 v535), ∀ a, (k0_off1 v535) a + S1x16x384.size a ≤ S13x16x384.size a := fun v535 k0_hw1 => k0_hw1

def k0_off2 (v600 : BitVec 32) : Fin 3 → Nat :=
  let v601 : Index := Scalar.indexCast v600
  let c0_263 : Index := 0#32
  let c0_264 : Index := 0#32
  ![v601.toNat, 0, 0]

def k0_chk2 (v600 : BitVec 32) : Prop :=
  (∀ a, (k0_off2 v600) a + S1x16x384.size a ≤ S13x16x384.size a)
theorem k0_off2_inb : ∀ (v600 : BitVec 32) (k0_hw2 : k0_chk2 v600), ∀ a, (k0_off2 v600) a + S1x16x384.size a ≤ S13x16x384.size a := fun v600 k0_hw2 => k0_hw2

def k0_off3 (v665 : BitVec 32) : Fin 3 → Nat :=
  let v666 : Index := Scalar.indexCast v665
  let c0_278 : Index := 0#32
  let c0_279 : Index := 0#32
  ![v666.toNat, 0, 0]

def k0_chk3 (v665 : BitVec 32) : Prop :=
  (∀ a, (k0_off3 v665) a + S1x16x384.size a ≤ S13x16x384.size a)
theorem k0_off3_inb : ∀ (v665 : BitVec 32) (k0_hw3 : k0_chk3 v665), ∀ a, (k0_off3 v665) a + S1x16x384.size a ≤ S13x16x384.size a := fun v665 k0_hw3 => k0_hw3

def k0_off4 (v730 : BitVec 32) : Fin 3 → Nat :=
  let v731 : Index := Scalar.indexCast v730
  let c0_293 : Index := 0#32
  let c0_294 : Index := 0#32
  ![v731.toNat, 0, 0]

def k0_chk4 (v730 : BitVec 32) : Prop :=
  (∀ a, (k0_off4 v730) a + S1x16x384.size a ≤ S13x16x384.size a)
theorem k0_off4_inb : ∀ (v730 : BitVec 32) (k0_hw4 : k0_chk4 v730), ∀ a, (k0_off4 v730) a + S1x16x384.size a ≤ S13x16x384.size a := fun v730 k0_hw4 => k0_hw4

def k0_off5 (v795 : BitVec 32) : Fin 3 → Nat :=
  let v796 : Index := Scalar.indexCast v795
  let c0_308 : Index := 0#32
  let c0_309 : Index := 0#32
  ![v796.toNat, 0, 0]

def k0_chk5 (v795 : BitVec 32) : Prop :=
  (∀ a, (k0_off5 v795) a + S1x16x384.size a ≤ S13x16x384.size a)
theorem k0_off5_inb : ∀ (v795 : BitVec 32) (k0_hw5 : k0_chk5 v795), ∀ a, (k0_off5 v795) a + S1x16x384.size a ≤ S13x16x384.size a := fun v795 k0_hw5 => k0_hw5

def k0_off6 (v860 : BitVec 32) : Fin 3 → Nat :=
  let v861 : Index := Scalar.indexCast v860
  let c0_323 : Index := 0#32
  let c0_324 : Index := 0#32
  ![v861.toNat, 0, 0]

def k0_chk6 (v860 : BitVec 32) : Prop :=
  (∀ a, (k0_off6 v860) a + S1x16x384.size a ≤ S13x16x384.size a)
theorem k0_off6_inb : ∀ (v860 : BitVec 32) (k0_hw6 : k0_chk6 v860), ∀ a, (k0_off6 v860) a + S1x16x384.size a ≤ S13x16x384.size a := fun v860 k0_hw6 => k0_hw6

def k0_off7 (v925 : BitVec 32) : Fin 3 → Nat :=
  let v926 : Index := Scalar.indexCast v925
  let c0_338 : Index := 0#32
  let c0_339 : Index := 0#32
  ![v926.toNat, 0, 0]

def k0_chk7 (v925 : BitVec 32) : Prop :=
  (∀ a, (k0_off7 v925) a + S1x16x384.size a ≤ S13x16x384.size a)
theorem k0_off7_inb : ∀ (v925 : BitVec 32) (k0_hw7 : k0_chk7 v925), ∀ a, (k0_off7 v925) a + S1x16x384.size a ≤ S13x16x384.size a := fun v925 k0_hw7 => k0_hw7

def k0_off8 (v990 : BitVec 32) : Fin 3 → Nat :=
  let v991 : Index := Scalar.indexCast v990
  let c0_353 : Index := 0#32
  let c0_354 : Index := 0#32
  ![v991.toNat, 0, 0]

def k0_chk8 (v990 : BitVec 32) : Prop :=
  (∀ a, (k0_off8 v990) a + S1x16x384.size a ≤ S13x16x384.size a)
theorem k0_off8_inb : ∀ (v990 : BitVec 32) (k0_hw8 : k0_chk8 v990), ∀ a, (k0_off8 v990) a + S1x16x384.size a ≤ S13x16x384.size a := fun v990 k0_hw8 => k0_hw8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x384x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S208x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S208x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x96x384x384 : Shape := ⟨4, ![4, 96, 384, 384]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S_ : Shape := ⟨0, ![]⟩
abbrev S4x96x147456 : Shape := ⟨3, ![4, 96, 147456]⟩
abbrev S4x96x16 : Shape := ⟨3, ![4, 96, 16]⟩

abbrev nBuf : Space → Nat
  | .hbm => 47
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S384, .i32⟩
  | .hbm, ⟨2, _⟩ => ⟨S384x1, .i32⟩
  | .hbm, ⟨3, _⟩ => ⟨S1x384, .i32⟩
  | .hbm, ⟨4, _⟩ => ⟨S384x384, .i32⟩
  | .hbm, ⟨5, _⟩ => ⟨S384x384, .i32⟩
  | .hbm, ⟨6, _⟩ => ⟨S384x384, .i32⟩
  | .hbm, ⟨7, _⟩ => ⟨S384x384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S384x384, .f32⟩
  | .hbm, ⟨13, _⟩ => ⟨S384x384, .f32⟩
  | .hbm, ⟨14, _⟩ => ⟨S_, .f32⟩
  | .hbm, ⟨15, _⟩ => ⟨S384x384, .f32⟩
  | .hbm, ⟨16, _⟩ => ⟨S384x384, .f32⟩
  | .hbm, ⟨17, _⟩ => ⟨S384x384, .f32⟩
  | .hbm, ⟨18, _⟩ => ⟨S_, .f32⟩
  | .hbm, ⟨19, _⟩ => ⟨S_, .f32⟩
  | .hbm, ⟨20, _⟩ => ⟨S384x384, .f32⟩
  | .hbm, ⟨21, _⟩ => ⟨S384x384, .f32⟩
  | .hbm, ⟨22, _⟩ => ⟨S384x384, .f32⟩
  | .hbm, ⟨23, _⟩ => ⟨S384x384, .f32⟩
  | .hbm, ⟨24, _⟩ => ⟨S_, .f32⟩
  | .hbm, ⟨25, _⟩ => ⟨S_, .f32⟩
  | .hbm, ⟨26, _⟩ => ⟨S384x384, .f32⟩
  | .hbm, ⟨27, _⟩ => ⟨S384x384, .f32⟩
  | .hbm, ⟨28, _⟩ => ⟨S4x96x384x384, .f32⟩
  | .hbm, ⟨29, _⟩ => ⟨S4x96x384x384, .f32⟩
  | .hbm, ⟨30, _⟩ => ⟨S4x96x384x384, .f32⟩
  | .hbm, ⟨31, _⟩ => ⟨S4x96x384x384, .f32⟩
  | .hbm, ⟨32, _⟩ => ⟨S4x96x384x384, .f32⟩
  | .hbm, ⟨33, _⟩ => ⟨S4x96x384x384, .f32⟩
  | .hbm, ⟨34, _⟩ => ⟨S4x96x384x384, .f32⟩
  | .hbm, ⟨35, _⟩ => ⟨S4x96x384x384, .f32⟩
  | .hbm, ⟨36, _⟩ => ⟨S4x96x384x384, .f32⟩
  | .hbm, ⟨37, _⟩ => ⟨S4x96x384x384, .f32⟩
  | .hbm, ⟨38, _⟩ => ⟨S4x96x384x384, .f32⟩
  | .hbm, ⟨39, _⟩ => ⟨S4x96x384x384, .f32⟩
  | .hbm, ⟨40, _⟩ => ⟨S4x96x384x384, .f32⟩
  | .hbm, ⟨41, _⟩ => ⟨S4x96x384x384, .f32⟩
  | .hbm, ⟨42, _⟩ => ⟨S4x96x384x384, .f32⟩
  | .hbm, ⟨43, _⟩ => ⟨S4x96x384x384, .f32⟩
  | .hbm, ⟨44, _⟩ => ⟨S4x96x147456, .f32⟩
  | .hbm, ⟨45, _⟩ => ⟨S4x96x16, .f32⟩
  | .hbm, ⟨46, _⟩ => ⟨S4x96x16, .i32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_values : Ref sig .tc := ⟨.hbm, 45, rfl⟩
abbrev main_indices : Ref sig .tc := ⟨.hbm, 46, rfl⟩

abbrev nD : Nat := 1
abbrev τ : Topo := Topo.v7x

variable {F : FTy → Type} [FloatOps F]
-- ==== Proof.K.Words.lean ====
/-
  Small facts the kernel's vector operations come down to: a fold of signed minima is one of the folded words and at
  most each of them; the extended-real comparisons as propositions; a reduction of a whole array; and a natural number
  carried as an extended real comes back as its word.
-/
module

public import Idealize.ShloMosaic.PureOps.Ideal.Laws
public import Idealize.ShloMosaic.Lib.ValueIdx
public import Idealize.ShloMosaic.Lib.Pipeline.Value

@[expose] public section

noncomputable section

namespace Cert.Proof.Words

open Idealize.ShloMosaic Idealize.ShloMosaic.ValueIdx Idealize.ShloMosaic.Ideal

/-- Choosing by a comparison's bit is choosing by the comparison. -/
theorem select_ofBool {α : Type} (p : Prop) [Decidable p] (a b : α) :
    Scalar.select (BitVec.ofBool (decide p)) a b = if p then a else b := by
  by_cases h : p <;> simp [h, Scalar.select]

/-- The comparisons of extended reals, as the bits of propositions. -/
theorem cmpf_oeq (x y : Ideal .f32) : FloatOps.cmpf .oeq x y = BitVec.ofBool (decide (x = y)) := by
  show BitVec.ofBool _ = _
  congr 1
theorem cmpf_olt (x y : Ideal .f32) : FloatOps.cmpf .olt x y = BitVec.ofBool (decide (x < y)) := by
  show BitVec.ofBool _ = _
  congr 1

/-- A small natural number's word, read signed, is the number. -/
theorem toInt_small {n : ℕ} (h : n < 2 ^ 31) : (BitVec.ofNat 32 n).toInt = (n : ℤ) := by
  have ht : (BitVec.ofNat 32 n).toNat = n := by rw [BitVec.toNat_ofNat, Nat.mod_eq_of_lt (by omega)]
  rw [BitVec.toInt_eq_toNat_of_lt (by rw [ht]; omega), ht]

/-- The word operations at an element. -/
theorem andi_at {s : Shape} {w : ℕ} (x y : IVec s w) (i : s.Idx) : andi x y i = IntOp.andi (x i) (y i) := rfl
theorem cmpi_at {s : Shape} {w : ℕ} (p : CmpIPredicate) (x y : IVec s w) (i : s.Idx) : cmpi p x y i = IntOp.cmpi p (x i) (y i) := rfl
theorem mulf_at {s : Shape} (x y : FVec Ideal s .f32) (i : s.Idx) : mulf x y i = (x i : EReal) * (y i : EReal) := rfl

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
theorem cmpi_eq_ofBool {w : ℕ} (x y : BitVec w) (q : Prop) [Decidable q] (h : x = y ↔ q) :
    IntOp.cmpi .eq x y = BitVec.ofBool (decide q) := by
  show BitVec.ofBool (x == y) = _
  rw [beq_eq_decide, decide_eq_decide.mpr h]

theorem ofBool_eq_one (p : Bool) : BitVec.ofBool p = 1#1 ↔ p = true := by cases p <;> decide

/-- The fold of signed minima is at most every word folded, and is the start or one of them. -/
theorem fold_minsi {ι : Type} (s : Finset ι) (b : BitVec 32) (f : ι → BitVec 32) :
    ((s.fold (IKind.minsi.op) b f = b) ∨ ∃ i ∈ s, s.fold (IKind.minsi.op) b f = f i)
      ∧ ∀ i ∈ s, (s.fold (IKind.minsi.op) b f).toInt ≤ (f i).toInt := by
  classical
  induction s using Finset.induction_on with
  | empty => simp
  | insert a s ha ih =>
    rw [Finset.fold_insert ha]
    show (IntOp.minsi (f a) _ = b ∨ ∃ i ∈ insert a s, IntOp.minsi (f a) _ = f i) ∧ ∀ i ∈ insert a s, (IntOp.minsi (f a) _).toInt ≤ _
    unfold IntOp.minsi
    by_cases hlt : (f a).slt (s.fold (IKind.minsi.op) b f)
    · rw [if_pos hlt]
      have hlt' := BitVec.slt_iff_toInt_lt.mp hlt
      refine ⟨.inr ⟨a, Finset.mem_insert_self _ _, rfl⟩, fun i hi => ?_⟩
      rcases Finset.mem_insert.mp hi with rfl | hi
      · exact le_rfl
      · exact hlt'.le.trans (ih.2 i hi)
    · rw [if_neg hlt]
      have hlt' := not_lt.mp fun h => hlt (BitVec.slt_iff_toInt_lt.mpr h)
      refine ⟨ih.1.imp id fun ⟨i, hi, h⟩ => ⟨i, Finset.mem_insert_of_mem hi, h⟩, fun i hi => ?_⟩
      rcases Finset.mem_insert.mp hi with rfl | hi
      · exact hlt'
      · exact ih.2 i hi

/-- The word of minus infinity. -/
theorem ofBits_neg_inf : Ideal.ofBits .f32 0xFF800000#32 = ⊥ := by simp [Ideal.ofBits, Ideal.ieee]
theorem ofBits_one : Ideal.ofBits .f32 0x3F800000#32 = ((1 : ℕ) : EReal) := by
  simp [Ideal.ofBits, Ideal.ieee, -EReal.coe_mul]; norm_num
theorem ofBits_two : Ideal.ofBits .f32 0x40000000#32 = ((2 : ℕ) : EReal) := by
  have he : ((2 : ℕ) : EReal) = (((2 : ℕ) : ℝ) : EReal) := (EReal.coe_natCast).symm
  rw [he]
  simp [Ideal.ofBits, Ideal.ieee, -EReal.coe_mul]; norm_num
theorem ofBits_zero : Ideal.ofBits .f32 0x00000000#32 = ((0 : ℕ) : EReal) := by
  simp [Ideal.ofBits, Ideal.ieee]

/-- A natural number below `2^31`, converted from an extended real to a word, is its word. -/
theorem fptosi_nat (n : ℕ) (h : n < 2 ^ 31) : Ideal.fptosi 32 ((n : ℕ) : EReal) = BitVec.ofNat 32 n := by
  have he : ((n : ℕ) : EReal) = (((n : ℕ) : ℝ) : EReal) := (EReal.coe_natCast).symm
  rw [he]
  unfold Ideal.fptosi Ideal.toIntClamped
  have h0 : (0 : ℝ) ≤ (n : ℝ) := Nat.cast_nonneg n
  show BitVec.ofInt 32 (max _ (min _ (if 0 ≤ ((n : ℕ) : ℝ) then ⌊((n : ℕ) : ℝ)⌋ else _))) = _
  rw [if_pos h0, Int.floor_natCast]
  have : max (-((2 ^ (32 - 1) : ℕ) : ℤ)) (min (((2 ^ (32 - 1) : ℕ) : ℤ) - 1) (n : ℤ)) = (n : ℤ) := by
    norm_num at h ⊢; omega
  rw [this]; simp

variable {α : Type}

/-- A vector of one element reads the same everywhere. -/
theorem one_eq (v : (⟨1, ![1]⟩ : Shape).Idx → α) (i j : (⟨1, ![1]⟩ : Shape).Idx) : v i = v j := by
  congr 1; funext a; match a with | ⟨0, h⟩ => exact Subsingleton.elim (α := Fin 1) _ _

/-- The maximum of a whole array as the kernel takes it: a reshape to one more axis, a reduction, an extraction. -/
theorem total_max {s t : Shape} (x : FVec Ideal s .f32) (hs : s.ShapeCasts t) {axes : List (Fin t.rank)} (h : t.Reduces axes ⟨1, ![1]⟩)
    (hφ : FKind.Formats .f32) (hacc : (0xFF800000#32 : BitVec 32) = FKind.maximumf.neutral .f32 hφ) (j : (⟨1, ![1]⟩ : Shape).Idx) :
    multiReduction .maximumf axes ⟨1, ![1]⟩ (shapeCast t x hs) 0xFF800000#32 h hφ hacc j = Finset.univ.sup x := by
  rw [multiReduction_maximumf_eq_fold, Finset.filter_true_of_mem fun i _ => funext fun b => by
    match b with | ⟨0, hb⟩ => exact Subsingleton.elim (α := Fin 1) _ _]
  show Finset.fold max (Ideal.ofBits .f32 0xFF800000#32) _ _ = _
  rw [ofBits_neg_inf]
  show Finset.univ.sup (shapeCast t x hs) = _
  apply le_antisymm
  · refine Finset.sup_le fun i _ => ?_
    unfold shapeCast
    exact Finset.le_sup (f := x) (Finset.mem_univ _)
  · refine Finset.sup_le fun i _ => ?_
    have : x i = shapeCast t x hs ((Shape.reshapeEquiv hs).symm i) := by
      unfold shapeCast; simp
    rw [this]
    exact Finset.le_sup (f := shapeCast t x hs) (Finset.mem_univ _)

/-- The signed minimum of a whole array likewise is one of its words (or the start) and at most each. -/
theorem total_min {s t : Shape} (x : IVec s 32) (hs : s.ShapeCasts t) {axes : List (Fin t.rank)} (h : t.Reduces axes ⟨1, ![1]⟩)
    (hacc : (2147483647#32 : BitVec 32) = IKind.minsi.neutral) (j : (⟨1, ![1]⟩ : Shape).Idx) :
    (multiReductionI .minsi axes ⟨1, ![1]⟩ (shapeCast t x hs) 2147483647#32 h hacc j = 2147483647#32
      ∨ ∃ i, multiReductionI .minsi axes ⟨1, ![1]⟩ (shapeCast t x hs) 2147483647#32 h hacc j = x i)
    ∧ ∀ i, (multiReductionI .minsi axes ⟨1, ![1]⟩ (shapeCast t x hs) 2147483647#32 h hacc j).toInt ≤ (x i).toInt := by
  rw [multiReductionI_eq_fold, Finset.filter_true_of_mem fun i _ => funext fun b => by
    match b with | ⟨0, hb⟩ => exact Subsingleton.elim (α := Fin 1) _ _]
  have hf := fold_minsi Finset.univ 2147483647#32 (shapeCast t x hs)
  refine ⟨hf.1.imp id fun ⟨i, _, hi⟩ => ⟨_, hi⟩, fun i => ?_⟩
  have : x i = shapeCast t x hs ((Shape.reshapeEquiv hs).symm i) := by
    unfold shapeCast; simp
  rw [this]
  exact hf.2 _ (Finset.mem_univ _)

/-- The sum of a whole array likewise. -/
theorem total_sum {s t : Shape} (x : FVec Ideal s .f32) (hs : s.ShapeCasts t) {axes : List (Fin t.rank)} (h : t.Reduces axes ⟨1, ![1]⟩)
    (hφ : FKind.Formats .f32) (hacc : (0x00000000#32 : BitVec 32) = FKind.add.neutral .f32 hφ) (j : (⟨1, ![1]⟩ : Shape).Idx) :
    multiReduction .add axes ⟨1, ![1]⟩ (shapeCast t x hs) 0x00000000#32 h hφ hacc j = ∑ i, x i := by
  rw [multiReduction_add_total _ _ _ (fun b => by match b with | ⟨0, hb⟩ => rfl)]
  unfold shapeCast
  exact Equiv.sum_comp (Shape.reshapeEquiv hs) x

/-- A column's maximum. -/
theorem col_max {m n : ℕ} (x : FVec Ideal ⟨2, ![m, n]⟩ .f32) (h : (⟨2, ![m, n]⟩ : Shape).Reduces [0] ⟨1, ![n]⟩)
    (hφ : FKind.Formats .f32) (hacc : (0xFF800000#32 : BitVec 32) = FKind.maximumf.neutral .f32 hφ) (c : Fin n) :
    multiReduction .maximumf [0] ⟨1, ![n]⟩ x 0xFF800000#32 h hφ hacc (ix1 c) = Finset.univ.sup fun r : Fin m => x (ix2 r c) := by
  rw [multiReduction_maximumf_single]
  show Finset.fold max (Ideal.ofBits .f32 0xFF800000#32) _ _ = _
  rw [ofBits_neg_inf]
  show Finset.univ.sup (x ∘ h.lift (ix1 c)) = _
  congr 1; funext r
  show x _ = x _
  congr 1; funext a
  match a with | ⟨0, _⟩ => rfl | ⟨1, _⟩ => rfl

/-- A column's sum. -/
theorem col_sum {m n : ℕ} (x : FVec Ideal ⟨2, ![m, n]⟩ .f32) (h : (⟨2, ![m, n]⟩ : Shape).Reduces [0] ⟨1, ![n]⟩)
    (hφ : FKind.Formats .f32) (hacc : (0x00000000#32 : BitVec 32) = FKind.add.neutral .f32 hφ) (c : Fin n) :
    multiReduction .add [0] ⟨1, ![n]⟩ x 0x00000000#32 h hφ hacc (ix1 c) = ∑ r : Fin m, x (ix2 r c) := by
  rw [multiReduction_add_single]
  refine Finset.sum_congr rfl fun r _ => ?_
  congr 1; funext a
  match a with | ⟨0, _⟩ => rfl | ⟨1, _⟩ => rfl

/-- One element of a one-element array of three axes, reshaped from a one-element vector. -/
theorem extract_one (v : (⟨1, ![1]⟩ : Shape).Idx → α) (h : (⟨1, ![1]⟩ : Shape).ShapeCasts ⟨3, ![1, 1, 1]⟩) (hp) :
    extractAt ![0, 0, 0] (shapeCast ⟨3, ![1, 1, 1]⟩ v h) hp = v (ix1 0) := by
  unfold extractAt shapeCast
  exact one_eq v _ _

end Cert.Proof.Words

end
-- ==== Proof.K.Order.lean ====
/-
  The `j`-th largest entry of a finite weighted family of extended reals, said by counting.  `v` is that entry when
  fewer than or exactly `j` entries (with weights) lie strictly above `v` and more than `j` lie at or above it.  Two
  values that pass this test for the same `j` are equal, which is how the kernel's answer meets the reference's.
-/
module

public import Idealize.ShloMosaic.PureOps.Ideal

@[expose] public section

noncomputable section

namespace Cert.Proof.Order

variable {ι : Type*} [Fintype ι]

/-- The weight strictly above `v`. -/
def above (w : ι → ℕ) (f : ι → EReal) (v : EReal) : ℕ := ∑ i, if v < f i then w i else 0

/-- The weight at or above `v`. -/
def atLeast (w : ι → ℕ) (f : ι → EReal) (v : EReal) : ℕ := ∑ i, if v ≤ f i then w i else 0

/-- `v` is the `j`-th largest entry of `f`, each entry counted with its weight, the largest being number 0. -/
def IsNth (w : ι → ℕ) (f : ι → EReal) (j : ℕ) (v : EReal) : Prop := above w f v ≤ j ∧ j < atLeast w f v

/-- What lies at or above the larger of two values lies strictly above the smaller. -/
theorem atLeast_le_above (w : ι → ℕ) (f : ι → EReal) {v v' : EReal} (h : v < v') : atLeast w f v' ≤ above w f v := by
  refine Finset.sum_le_sum fun i _ => ?_
  by_cases hi : v' ≤ f i
  · rw [if_pos hi, if_pos (h.trans_le hi)]
  · rw [if_neg hi]; exact Nat.zero_le _

/-- There is at most one `j`-th largest entry. -/
theorem IsNth.unique {w : ι → ℕ} {f : ι → EReal} {j : ℕ} {v v' : EReal} (h : IsNth w f j v) (h' : IsNth w f j v') : v = v' := by
  rcases lt_trichotomy v v' with hlt | heq | hgt
  · have := atLeast_le_above w f hlt; unfold IsNth at h h'; omega
  · exact heq
  · have := atLeast_le_above w f hgt; unfold IsNth at h h'; omega

end Cert.Proof.Order

end
-- ==== Proof.K.Extract.lean ====
/-
  One step of the kernel's selection loop on one image, as plain mathematics.  The table `P` holds the power spectrum in
  13 chunks of 16 rows and 384 columns; `wt` is how often an entry stands in the full spectrum (rows 0 and 192 once, the
  others twice).  `ms g c` is the largest entry of chunk `g`, column `c` that has not been taken out yet, so the entries
  taken out are exactly those above `ms`.  A step finds the largest `ms`, takes every entry equal to it out of one chunk,
  and writes its root to as many output lanes as those entries weigh.  `Inv` is what every step keeps; `Inv.step` is that
  it does; `Inv.progress` is that a step takes something out while fewer than 16 have been.
-/
module

public import proofs.«01_k».proof.Proof.K.Order

@[expose] public section

noncomputable section

namespace Cert.Proof.Extract

open Cert.Proof.Order

/-- How often the entry of chunk `g`, row `r` stands in the full spectrum. -/
def wt (g : Fin 13) (r : Fin 16) : ℕ := if r.val = 0 ∧ (g.val = 0 ∨ g.val = 12) then 1 else 2

theorem wt_pos (g : Fin 13) (r : Fin 16) : 1 ≤ wt g r := by unfold wt; split <;> omega
theorem wt_le (g : Fin 13) (r : Fin 16) : wt g r ≤ 2 := by unfold wt; split <;> omega

/-- The weight of a cell named by chunk, row and column. -/
def wt3 (i : Fin 13 × Fin 16 × Fin 384) : ℕ := wt i.1 i.2.1
/-- A table read at such a cell. -/
def tab (P : Fin 13 → Fin 16 → Fin 384 → EReal) (i : Fin 13 × Fin 16 × Fin 384) : EReal := P i.1 i.2.1 i.2.2

/-- Chunk `g` as a row of the 16-row table of maxima. -/
abbrev up (g : Fin 13) : Fin 16 := ⟨g.val, by omega⟩

variable (P : Fin 13 → Fin 16 → Fin 384 → EReal) (sq : EReal → EReal)

/-- The weight taken out so far. -/
def taken (ms : Fin 16 → Fin 384 → EReal) : ℕ := ∑ i : Fin 13 × Fin 16 × Fin 384, if ms (up i.1) i.2.2 < tab P i then wt3 i else 0

/-- What holds of a stream's table of maxima, output lanes and count at every turn of the loop. -/
structure Inv (ms : Fin 16 → Fin 384 → EReal) (out : Fin 16 → EReal) (cnt : ℕ) : Prop where
  cell : ∀ g c, ms (up g) c = ⊥ ∨ ∃ r, ms (up g) c = P g r c
  pad : ∀ (g : Fin 16) c, 13 ≤ g.val → ms g c = ⊥
  count : cnt = taken P ms
  top : ∀ g r c, ms (up g) c < P g r c → ∀ g' c', ms g' c' ≤ P g r c
  outs : ∀ j : Fin 16, j.val < cnt → ∃ v, 0 ≤ v ∧ IsNth wt3 (tab P) j.val v ∧ out j = sq v

/-- The start: the maxima of the chunks' columns, nothing taken out. -/
theorem Inv.init {ms : Fin 16 → Fin 384 → EReal} (out : Fin 16 → EReal)
    (hle : ∀ g r c, P g r c ≤ ms (up g) c) (hmem : ∀ g c, ∃ r, ms (up g) c = P g r c)
    (hpad : ∀ (g : Fin 16) c, 13 ≤ g.val → ms g c = ⊥) : Inv P sq ms out 0 where
  cell g c := .inr (hmem g c)
  pad := hpad
  count := by
    symm; unfold taken
    refine Finset.sum_eq_zero fun i _ => if_neg (not_lt.mpr (hle _ _ _))
  top g r c h := absurd h (not_lt.mpr (hle g r c))
  outs j h := absurd h (Nat.not_lt_zero _)

/-- The weight of the whole table; the count never passes it. -/
theorem taken_le (ms : Fin 16 → Fin 384 → EReal) : taken P ms ≤ 159744 := by
  unfold taken
  calc _ ≤ ∑ _i : Fin 13 × Fin 16 × Fin 384, 2 := Finset.sum_le_sum fun i _ => by
        split
        · exact wt_le _ _
        · omega
    _ = 159744 := by simp

/-- What a step takes out in column `c` of chunk `g0`: the entries equal to `m`, if the column's maximum is `m`. -/
def got (ms : Fin 16 → Fin 384 → EReal) (m : EReal) (g0 : Fin 13) : ℕ :=
  ∑ c : Fin 384, ∑ r : Fin 16, if ms (up g0) c = m ∧ P g0 r c = m then wt g0 r else 0

section Step

variable {P sq} {ms : Fin 16 → Fin 384 → EReal} {out : Fin 16 → EReal} {cnt : ℕ} {m : EReal} {g0 : Fin 13}
  {ms' : Fin 16 → Fin 384 → EReal}

/-- After the step the entries above the new maxima are those above the old ones and those equal to `m` in the chosen
    chunk's columns. -/
theorem above_iff (hP : ∀ g r c, 0 ≤ P g r c)
    (hms' : ∀ g c, ms' g c = if ms g c = m ∧ g = up g0 then Finset.univ.sup (fun r => if P g0 r c < m then P g0 r c else ⊥) else ms g c)
    (g : Fin 13) (r : Fin 16) (c : Fin 384) :
    ms' (up g) c < P g r c ↔ (ms (up g) c < P g r c ∨ (g = g0 ∧ ms (up g0) c = m ∧ P g0 r c = m)) := by
  rw [hms']
  by_cases hs : ms (up g) c = m ∧ up g = up g0
  · rw [if_pos hs]
    have hg : g = g0 := by have := congrArg Fin.val hs.2; exact Fin.ext this
    subst hg
    rw [Finset.sup_lt_iff (lt_of_lt_of_le EReal.bot_lt_zero (hP _ _ _))]
    constructor
    · intro h
      have h1 : ¬ P g r c < m := fun hlt => by
        have := h r (Finset.mem_univ r); rw [if_pos hlt] at this; exact lt_irrefl _ this
      rcases (not_lt.mp h1).lt_or_eq with h2 | h2
      · left; rw [hs.1]; exact h2
      · right; exact ⟨rfl, hs.1, h2.symm⟩
    · intro h r' _
      have hge : m ≤ P g r c := by
        rcases h with h | h
        · rw [hs.1] at h; exact h.le
        · exact h.2.2.symm.le
      by_cases hlt : P g r' c < m
      · rw [if_pos hlt]; exact hlt.trans_le hge
      · rw [if_neg hlt]; exact lt_of_lt_of_le EReal.bot_lt_zero (hP _ _ _)
  · rw [if_neg hs]
    constructor
    · exact .inl
    · rintro (h | ⟨rfl, h1, h2⟩)
      · exact h
      · exact absurd ⟨h1, rfl⟩ hs

/-- The weight above the new maxima is the old weight and what the step took. -/
theorem taken_step (hP : ∀ g r c, 0 ≤ P g r c)
    (hms' : ∀ g c, ms' g c = if ms g c = m ∧ g = up g0 then Finset.univ.sup (fun r => if P g0 r c < m then P g0 r c else ⊥) else ms g c) :
    taken P ms' = taken P ms + got P ms m g0 := by
  have hgot : got P ms m g0 = ∑ i : Fin 13 × Fin 16 × Fin 384,
      if i.1 = g0 ∧ ms (up g0) i.2.2 = m ∧ P g0 i.2.1 i.2.2 = m then wt3 i else 0 := by
    unfold got
    rw [Fintype.sum_prod_type, Finset.sum_eq_single g0]
    · rw [Fintype.sum_prod_type, Finset.sum_comm]
      refine Finset.sum_congr rfl fun r _ => Finset.sum_congr rfl fun c _ => ?_
      simp [wt3]
    · intro g _ hg
      refine Finset.sum_eq_zero fun i _ => if_neg fun h => hg h.1
    · intro h; exact absurd (Finset.mem_univ _) h
  rw [hgot]; unfold taken
  rw [← Finset.sum_add_distrib]
  refine Finset.sum_congr rfl fun i _ => ?_
  have hi := above_iff hP hms' i.1 i.2.1 i.2.2
  have hdis : ¬ (ms (up i.1) i.2.2 < tab P i ∧ (i.1 = g0 ∧ ms (up g0) i.2.2 = m ∧ P g0 i.2.1 i.2.2 = m)) := by
    rintro ⟨h, h1, h2, h3⟩
    unfold tab at h; rw [h1, h2, h3] at h; exact lt_irrefl _ h
  change (if ms' (up i.1) i.2.2 < P i.1 i.2.1 i.2.2 then wt3 i else 0) = _
  change ¬ (ms (up i.1) i.2.2 < P i.1 i.2.1 i.2.2 ∧ _) at hdis
  change _ = (if ms (up i.1) i.2.2 < P i.1 i.2.1 i.2.2 then wt3 i else 0) + _
  by_cases h1 : ms (up i.1) i.2.2 < P i.1 i.2.1 i.2.2
  · rw [if_pos (hi.mpr (.inl h1)), if_pos h1, if_neg fun h => hdis ⟨h1, h⟩, Nat.add_zero]
  · by_cases h2 : i.1 = g0 ∧ ms (up g0) i.2.2 = m ∧ P g0 i.2.1 i.2.2 = m
    · rw [if_pos (hi.mpr (.inr h2)), if_neg h1, if_pos h2, Nat.zero_add]
    · rw [if_neg fun h => (hi.mp h).elim h1 h2, if_neg h1, if_neg h2]

variable (h : Inv P sq ms out cnt) (hP : ∀ g r c, 0 ≤ P g r c) (hm : ∀ g c, ms g c ≤ m) (hg : ∃ c, ms (up g0) c = m)
include h hP hm

/-- While fewer than 16 have been taken out something is left, so the largest maximum is an entry. -/
theorem Inv.nonneg (hc : cnt < 16) : 0 ≤ m := by
  by_contra hneg
  have hall : ∀ i : Fin 13 × Fin 16 × Fin 384, ms (up i.1) i.2.2 < tab P i := fun i =>
    lt_of_le_of_lt (hm _ _) (lt_of_lt_of_le (not_le.mp hneg) (hP _ _ _))
  have : 16 ≤ taken P ms := by
    unfold taken
    calc 16 ≤ ∑ _i : Fin 13 × Fin 16 × Fin 384, 1 := by simp
      _ ≤ _ := Finset.sum_le_sum fun i _ => by rw [if_pos (hall i)]; exact wt_pos _ _
  rw [← h.count] at this; omega

include hg in
/-- So a step then takes something out. -/
theorem Inv.progress (hc : cnt < 16) : 1 ≤ got P ms m g0 := by
  obtain ⟨c, hcm⟩ := hg
  have h0 := Inv.nonneg h hP hm hc
  rcases h.cell g0 c with hb | ⟨r, hr⟩
  · rw [← hcm, hb] at h0; exact absurd h0 (not_le.mpr EReal.bot_lt_zero)
  · unfold got
    calc 1 ≤ if ms (up g0) c = m ∧ P g0 r c = m then wt g0 r else 0 := by
          rw [if_pos ⟨hcm, hr.symm.trans hcm⟩]; exact wt_pos _ _
      _ ≤ ∑ r : Fin 16, if ms (up g0) c = m ∧ P g0 r c = m then wt g0 r else 0 :=
          Finset.single_le_sum (f := fun r : Fin 16 => if ms (up g0) c = m ∧ P g0 r c = m then wt g0 r else 0)
            (fun _ _ => Nat.zero_le _) (Finset.mem_univ r)
      _ ≤ _ := Finset.single_le_sum (f := fun c : Fin 384 => ∑ r : Fin 16, if ms (up g0) c = m ∧ P g0 r c = m then wt g0 r else 0)
            (fun _ _ => Nat.zero_le _) (Finset.mem_univ c)

/-- A step keeps the invariant. -/
theorem Inv.step
    (hms' : ∀ g c, ms' g c = if ms g c = m ∧ g = up g0 then Finset.univ.sup (fun r => if P g0 r c < m then P g0 r c else ⊥) else ms g c)
    {out' : Fin 16 → EReal}
    (hout' : ∀ j : Fin 16, out' j = if cnt ≤ j.val ∧ j.val < cnt + got P ms m g0 then sq m else out j) :
    Inv P sq ms' out' (cnt + got P ms m g0) := by
  have hdown : ∀ g c, ms' g c ≤ ms g c := fun g c => by
    rw [hms']; split
    · next hs =>
      refine Finset.sup_le fun r _ => ?_
      rw [hs.1]; split
      · next hlt => exact hlt.le
      · exact bot_le
    · exact le_rfl
  have hcount : cnt + got P ms m g0 = taken P ms' := by rw [taken_step hP hms', h.count]
  refine ⟨fun g c => ?_, fun g c hgp => ?_, hcount, fun g r c hab g' c' => ?_, fun j hj => ?_⟩
  · rw [hms']; split
    · next hs =>
      have hgg : g = g0 := by have := congrArg Fin.val hs.2; exact Fin.ext this
      subst hgg
      obtain ⟨r, _, hr⟩ := Finset.exists_mem_eq_sup Finset.univ ⟨(0 : Fin 16), Finset.mem_univ _⟩
        (fun r => if P g r c < m then P g r c else ⊥)
      rw [hr]; split
      · exact .inr ⟨r, rfl⟩
      · exact .inl rfl
    · exact h.cell g c
  · exact le_bot_iff.mp ((hdown g c).trans (h.pad g c hgp).le)
  · refine (hdown g' c').trans ?_
    rcases (above_iff hP hms' g r c).mp hab with h1 | ⟨rfl, _, h3⟩
    · exact h.top g r c h1 g' c'
    · rw [h3]; exact hm g' c'
  · rw [hout']
    by_cases hjc : j.val < cnt
    · rw [if_neg (by omega)]; exact h.outs j hjc
    · rw [if_pos ⟨by omega, hj⟩]
      -- a lane of this step: everything above `m` was taken before it, everything taken by now is at least `m`
      have hgot : 1 ≤ got P ms m g0 := by omega
      have h0 : 0 ≤ m := by
        by_contra hneg
        have : got P ms m g0 = 0 := by
          unfold got
          refine Finset.sum_eq_zero fun c _ => Finset.sum_eq_zero fun r _ => if_neg fun hh => hneg ?_
          rw [← hh.2]; exact hP _ _ _
        omega
      refine ⟨m, h0, ⟨?_, ?_⟩, rfl⟩
      · refine le_trans ?_ (not_lt.mp hjc)
        rw [h.count]; unfold above taken
        refine Finset.sum_le_sum fun i _ => ?_
        by_cases hi : m < tab P i
        · rw [if_pos hi, if_pos (lt_of_le_of_lt (hm _ _) hi)]
        · rw [if_neg hi]; exact Nat.zero_le _
      · refine lt_of_lt_of_le hj ?_
        rw [hcount]; unfold atLeast taken
        refine Finset.sum_le_sum fun i _ => ?_
        by_cases hi : ms' (up i.1) i.2.2 < tab P i
        · rw [if_pos hi]
          have hge : m ≤ tab P i := by
            rcases (above_iff hP hms' i.1 i.2.1 i.2.2).mp hi with h1 | ⟨h1, _, h3⟩
            · obtain ⟨g', c', hgc⟩ : ∃ g' c', m ≤ ms g' c' := by
                by_contra hno
                have : got P ms m g0 = 0 := by
                  unfold got
                  refine Finset.sum_eq_zero fun c _ => Finset.sum_eq_zero fun r _ => if_neg fun hh => hno ⟨up g0, c, hh.1.symm.le⟩
                omega
              exact hgc.trans (h.top _ _ _ h1 g' c')
            · unfold tab; rw [h1, h3]
          rw [if_pos hge]
        · rw [if_neg hi]; exact Nat.zero_le _

end Step

end Cert.Proof.Extract

end
-- ==== Proof.K.Stream.lean ====
/-
  One turn of the loop for one stream, read at the extended reals: the largest maximum, the first row that attains it,
  the table of maxima after the turn, the weight taken out, the output lanes and the count. The turn keeps
  `Extract.Inv`, and takes at least one out while fewer than 16 have been.
-/
module

public import proofs.«01_k».proof.Proof.K.Words
public import proofs.«01_k».proof.Proof.K.Extract
public import proofs.«01_k».proof.Proof.Gen.KernelIdeal.Skeleton

@[expose] public section

set_option maxRecDepth 65536

noncomputable section

namespace Cert.Proof.Stream

open Idealize.ShloMosaic Idealize.ShloMosaic.ValueIdx Idealize.ShloMosaic.Ideal
open Cert.KernelIdeal Cert.KernelIdeal.Gen Cert.Proof.Words Cert.Proof.Extract Cert.Proof.Order

/-- The row numbers and the lane numbers. -/
abbrev rowI : IVec S16x384 32 := iota .tc S16x384 32 [0] iota_S16x384_d0_w32
abbrev laneI : IVec S1x16 32 := iota .tc S1x16 32 [1] iota_S1x16_d1_w32
/-- Minus infinity. -/
abbrev negInf : Ideal .f32 := Scalar.ofBits .f32 0xFF800000#32

/-- A stream's largest maximum, the row it is first attained in, and the state after the turn. -/
abbrev stMax (ms : FVec Ideal S16x384 .f32) : Ideal .f32 := k0_pay106 ms
abbrev stRow (ms : FVec Ideal S16x384 .f32) : BitVec 32 := extractAt ![0, 0, 0] (k0_pay107 rowI ms) inpos_S1x1x1_p0_0_0
abbrev stMs (ms : FVec Ideal S16x384 .f32) (ck : Vec Ideal S1x16x384 .f32) : FVec Ideal S16x384 .f32 :=
  k0_pay114 ms (k0_pay109 negInf ms ck) (k0_pay110 rowI ms)
abbrev stOut (ms : FVec Ideal S16x384 .f32) (ck : Vec Ideal S1x16x384 .f32) (out : FVec Ideal S1x16 .f32) (cnt : BitVec 32) : FVec Ideal S1x16 .f32 :=
  k0_pay115 laneI out cnt (k0_pay106 ms) (k0_pay111 rowI rowI ms ck) (k0_pay112 rowI ms)
abbrev stW (ms : FVec Ideal S16x384 .f32) (ck : Vec Ideal S1x16x384 .f32) : BitVec 32 :=
  Scalar.fptosi 32 (k0_pay113 (k0_pay111 rowI rowI ms ck) (k0_pay112 rowI ms))
abbrev stCnt (ms : FVec Ideal S16x384 .f32) (ck : Vec Ideal S1x16x384 .f32) (cnt : BitVec 32) : BitVec 32 := Scalar.addi cnt (stW ms ck)

variable (ms : FVec Ideal S16x384 .f32)

theorem stMax_eq : stMax ms = Finset.univ.sup ms := by
  show extractAt _ (shapeCast S1x1x1 _ _) _ = _
  rw [extract_one]
  exact total_max ms _ _ _ _ _

theorem le_stMax (g : Fin 16) (c : Fin 384) : ms (ix2 g c) ≤ stMax ms := by
  rw [stMax_eq]; exact Finset.le_sup (f := ms) (Finset.mem_univ _)

theorem exists_stMax : ∃ g c, ms (ix2 g c) = stMax ms := by
  obtain ⟨i, _, hi⟩ := Finset.exists_mem_eq_sup (Finset.univ : Finset S16x384.Idx) ⟨ix2 (0 : Fin 16) (0 : Fin 384), Finset.mem_univ _⟩ ms
  refine ⟨i 0, i 1, ?_⟩
  rw [stMax_eq, hi]
  exact congrArg ms (eq_ix2 i).symm

theorem rowI_apply (g : Fin 16) (c : Fin 384) : rowI (ix2 g c) = BitVec.ofNat 32 g.val := by
  rw [rowI, iota_single_apply]
theorem laneI_apply (j : Fin 16) : laneI (ix2 (0 : Fin 1) j) = BitVec.ofNat 32 j.val := by
  rw [laneI, iota_single_apply]

/-- The row chosen is the first whose maximum is the largest. -/
theorem stRow_spec : ∃ g : Fin 16, stRow ms = BitVec.ofNat 32 g.val ∧ (∃ c, ms (ix2 g c) = stMax ms)
    ∧ ∀ g' c', ms (ix2 g' c') = stMax ms → g.val ≤ g'.val := by
  have hr : stRow ms = multiReductionI .minsi [1, 2] S1
      (shapeCast S1x16x384 (select (cmpf .oeq ms (broadcast S16x384 (k0_pay106 ms))) rowI (broadcast S16x384 1073741824#32)) shapeCasts_S16x384_S1x16x384)
      2147483647#32 reduces_S1x16x384_S1 rfl (ix1 0) := by
    show extractAt _ (shapeCast S1x1x1 _ _) _ = _
    rw [extract_one]
  obtain ⟨h1, h2⟩ := total_min (select (cmpf .oeq ms (broadcast S16x384 (k0_pay106 ms))) rowI (broadcast S16x384 1073741824#32))
    shapeCasts_S16x384_S1x16x384 reduces_S1x16x384_S1 rfl (ix1 0)
  rw [← hr] at h1 h2
  have hx : ∀ (g : Fin 16) (c : Fin 384), select (cmpf .oeq ms (broadcast S16x384 (k0_pay106 ms))) rowI (broadcast S16x384 1073741824#32) (ix2 g c)
      = if ms (ix2 g c) = stMax ms then BitVec.ofNat 32 g.val else 1073741824#32 := fun g c => by
    rw [select_apply, rowI_apply, cmpf_apply, broadcast_apply, broadcast_apply, cmpf_oeq, select_ofBool]
  have hsmall : ∀ g : Fin 16, (BitVec.ofNat 32 g.val).toInt = g.val := fun g => toInt_small (by have := g.isLt; omega)
  obtain ⟨ga, ca, hga⟩ := exists_stMax ms
  have hle : (stRow ms).toInt ≤ ga.val := by
    have := h2 (ix2 ga ca)
    rwa [hx, if_pos hga, hsmall] at this
  have hga' := ga.isLt
  rcases h1 with h1 | ⟨i, hi⟩
  · rw [h1] at hle
    exact absurd hle (by simp; omega)
  · rw [eq_ix2 i] at hi
    replace hi := hi.trans (hx (i 0) (i 1))
    by_cases hm : ms (ix2 (i 0) (i 1)) = stMax ms
    · rw [if_pos hm] at hi
      refine ⟨i 0, hi, ⟨i 1, hm⟩, fun g' c' h' => ?_⟩
      have := h2 (ix2 g' c')
      rw [hx, if_pos h', hsmall, hi, hsmall (i 0)] at this
      exact_mod_cast this
    · rw [if_neg hm] at hi
      rw [hi] at hle
      exact absurd hle (by simp; omega)

/-- A stream's state agrees with its table: the invariant of the loop. -/
def St (P : Fin 13 → Fin 16 → Fin 384 → EReal) (ms : FVec Ideal S16x384 .f32) (out : FVec Ideal S1x16 .f32) (cnt : BitVec 32) : Prop :=
  Inv P Ideal.sqrt (fun g c => ms (ix2 g c)) (fun j => out (ix2 (0 : Fin 1) j)) cnt.toNat

variable {ms} {P : Fin 13 → Fin 16 → Fin 384 → EReal} {out : FVec Ideal S1x16 .f32} {cnt : BitVec 32}

/-- … which for a table with its padding rows at minus infinity is one of the 13 chunks. -/
theorem St.row (h : St P ms out cnt) : ∃ g0 : Fin 13, stRow ms = BitVec.ofNat 32 g0.val ∧ ∃ c, ms (ix2 (up g0) c) = stMax ms := by
  obtain ⟨g, hg, ⟨c, hc⟩, hmin⟩ := stRow_spec ms
  by_cases hlt : g.val < 13
  · exact ⟨⟨g.val, hlt⟩, hg, c, hc⟩
  · exfalso
    have hb : ms (ix2 g c) = ⊥ := h.pad g c (by omega)
    have h0 : ms (ix2 (0 : Fin 16) c) = stMax ms := by
      have := le_stMax ms 0 c
      rw [← hc, hb, le_bot_iff] at this
      rw [this, ← hc, hb]
    have := hmin 0 c h0
    simp at this; omega

variable {ck : Vec Ideal S1x16x384 .f32} {g0 : Fin 13}

theorem chunk_apply (r : Fin 16) (c : Fin 384) : k0_pay108 ck (ix2 r c) = ck (ix3 (0 : Fin 1) r c) := by
  unfold k0_pay108
  show shapeCast S16x384 ck _ _ = _
  rw [shapeCast_dropUnit_apply]
  congr 1; funext a
  match a with | ⟨0, _⟩ => rfl | ⟨1, _⟩ => rfl | ⟨2, _⟩ => rfl

/-- The chosen cells: the chosen row's entries that attain the maximum. -/
theorem mask_apply (hrow : stRow ms = BitVec.ofNat 32 g0.val) (g : Fin 16) (c : Fin 384) :
    k0_pay110 rowI ms (ix2 g c) = BitVec.ofBool (decide (ms (ix2 g c) = stMax ms ∧ g = up g0)) := by
  unfold k0_pay110
  rw [andi_at, cmpf_apply, cmpi_at, broadcast_apply, broadcast_apply, rowI_apply, cmpf_oeq]
  rw [show extractAt ![0, 0, 0] (k0_pay107 rowI ms) inpos_S1x1x1_p0_0_0 = BitVec.ofNat 32 g0.val from hrow]
  have he : (BitVec.ofNat 32 g.val = BitVec.ofNat 32 g0.val) ↔ g = up g0 := by
    rw [← BitVec.toNat_inj, BitVec.toNat_ofNat, BitVec.toNat_ofNat, Fin.ext_iff]
    have := g.isLt; have := g0.isLt
    rw [Nat.mod_eq_of_lt (by omega), Nat.mod_eq_of_lt (by omega)]
  rw [cmpi_eq_ofBool _ _ _ he, andi_ofBool]

theorem row_of_vec (v : FVec Ideal S384 .f32) (c : Fin 384) : shapeCast S1x384 v shapeCasts_S384_S1x384 (ix2 (0 : Fin 1) c) = v (ix1 c) := by
  rw [shapeCast_addUnit_apply]
  congr 1; funext a
  match a with | ⟨0, _⟩ => rfl

/-- The table of maxima after the turn. -/
theorem stMs_apply (hrow : stRow ms = BitVec.ofNat 32 g0.val) (hck : ∀ r c, ck (ix3 (0 : Fin 1) r c) = P g0 r c) (g : Fin 16) (c : Fin 384) :
    stMs ms ck (ix2 g c) = if ms (ix2 g c) = stMax ms ∧ g = up g0
      then Finset.univ.sup (fun r => if P g0 r c < stMax ms then P g0 r c else ⊥) else ms (ix2 g c) := by
  have hv : broadcastTo S16x384 (shapeCast S1x384 (k0_pay109 negInf ms ck) shapeCasts_S1x384_S1x384) broadcasts_S1x384_S16x384 (ix2 g c)
      = Finset.univ.sup (fun r => if P g0 r c < stMax ms then P g0 r c else ⊥) := by
    rw [shapeCast_self]
    have : broadcastTo S16x384 (k0_pay109 negInf ms ck) broadcasts_S1x384_S16x384 (ix2 g c) = k0_pay109 negInf ms ck (ix2 (0 : Fin 1) c) := by
      unfold broadcastTo
      congr 1; funext a
      match a with | ⟨0, _⟩ => rfl | ⟨1, _⟩ => rfl
    rw [this]
    unfold k0_pay109
    rw [row_of_vec]
    refine (col_max _ _ (.inl rfl) rfl c).trans (congrArg (Finset.sup Finset.univ) (funext fun r => ?_))
    rw [← hck r c, ← chunk_apply (ck := ck)]
    rw [select_apply, cmpf_apply, broadcast_apply, broadcast_apply, cmpf_olt, select_ofBool]
    exact congrArg (fun z : EReal => if k0_pay108 ck (ix2 r c) < stMax ms then k0_pay108 ck (ix2 r c) else z) ofBits_neg_inf
  unfold stMs k0_pay114
  rw [select_apply, mask_apply hrow, select_ofBool, hv]

theorem natCast_sum {ι : Type} (s : Finset ι) (f : ι → ℕ) : ((∑ i ∈ s, f i : ℕ) : EReal) = ∑ i ∈ s, ((f i : ℕ) : EReal) :=
  Nat.cast_sum s f

theorem natCast_mul' (a b : ℕ) : ((a * b : ℕ) : EReal) = (a : EReal) * (b : EReal) := by
  rw [← EReal.coe_natCast, ← EReal.coe_natCast, ← EReal.coe_natCast, Nat.cast_mul, EReal.coe_mul]

/-- The weight of one column of the chosen chunk's cells that equal the maximum. -/
theorem weight_apply (hrow : stRow ms = BitVec.ofNat 32 g0.val) (hck : ∀ r c, ck (ix3 (0 : Fin 1) r c) = P g0 r c) (c : Fin 384) :
    k0_pay111 rowI rowI ms ck (ix2 (0 : Fin 1) c) = ((∑ r : Fin 16, if P g0 r c = stMax ms then wt g0 r else 0 : ℕ) : EReal) := by
  unfold k0_pay111
  rw [row_of_vec]
  refine (col_sum _ _ (.inl rfl) rfl c).trans ?_
  rw [natCast_sum]
  refine Finset.sum_congr rfl fun r _ => ?_
  rw [← hck r c, ← chunk_apply (ck := ck)]
  rw [select_apply, cmpf_apply, broadcast_apply, cmpf_oeq, select_ofBool]
  have hw : Scalar.select (IntOp.andi (IntOp.cmpi .eq (rowI (ix2 r c)) 0#32) (Scalar.ori (Scalar.cmpi .eq (stRow ms) 0#32) (Scalar.cmpi .eq (stRow ms) 12#32)))
      (Ideal.ofBits .f32 0x3F800000#32) (Ideal.ofBits .f32 0x40000000#32) = ((wt g0 r : ℕ) : EReal) := by
    rw [hrow, rowI_apply, ofBits_one, ofBits_two]
    have h1 : (BitVec.ofNat 32 r.val = 0#32) = (r.val = 0) := by
      rw [eq_iff_iff, ← BitVec.toNat_inj, BitVec.toNat_ofNat]; have := r.isLt; rw [Nat.mod_eq_of_lt (by omega)]; simp
    have h2 : (BitVec.ofNat 32 g0.val = 0#32) = (g0.val = 0) := by
      rw [eq_iff_iff, ← BitVec.toNat_inj, BitVec.toNat_ofNat]; have := g0.isLt; rw [Nat.mod_eq_of_lt (by omega)]; simp
    have h3 : (BitVec.ofNat 32 g0.val = 12#32) = (g0.val = 12) := by
      rw [eq_iff_iff, ← BitVec.toNat_inj, BitVec.toNat_ofNat]; have := g0.isLt; rw [Nat.mod_eq_of_lt (by omega)]; simp
    have hb : IntOp.andi (IntOp.cmpi .eq (BitVec.ofNat 32 r.val) 0#32) (Scalar.ori (Scalar.cmpi .eq (BitVec.ofNat 32 g0.val) 0#32) (Scalar.cmpi .eq (BitVec.ofNat 32 g0.val) 12#32))
        = BitVec.ofBool (decide (r.val = 0 ∧ (g0.val = 0 ∨ g0.val = 12))) := by
      show IntOp.andi (BitVec.ofBool (_ == _)) (IntOp.ori (BitVec.ofBool (_ == _)) (BitVec.ofBool (_ == _))) = _
      rw [beq_eq_decide, beq_eq_decide, beq_eq_decide]
      simp only [h1, h2, h3]
      by_cases a : r.val = 0 <;> by_cases b : g0.val = 0 <;> by_cases d : g0.val = 12 <;> simp [a, b, d, IntOp.andi, IntOp.ori]
    rw [hb, select_ofBool]
    unfold wt; split <;> rfl
  have h0 : Ideal.ofBits .f32 0x00000000#32 = ((0 : ℕ) : EReal) := ofBits_zero
  split
  · exact hw
  · exact h0

/-- One for each column whose chosen maximum is attained. -/
theorem cols_apply (hrow : stRow ms = BitVec.ofNat 32 g0.val) (c : Fin 384) :
    k0_pay112 rowI ms (ix1 c) = ((if ms (ix2 (up g0) c) = stMax ms then 1 else 0 : ℕ) : EReal) := by
  have hterm : ∀ g : Fin 16, sitofp (F := Ideal) .f32 (extui 32 (k0_pay110 rowI ms) natLt_1_32) (ix2 g c)
      = ((if ms (ix2 g c) = stMax ms ∧ g = up g0 then 1 else 0 : ℕ) : EReal) := fun g => by
    rw [sitofp_apply, extui_apply, mask_apply hrow]
    by_cases h : ms (ix2 g c) = stMax ms ∧ g = up g0
    · rw [if_pos h, decide_eq_true h]
      show (((((1#32 : BitVec 32).toInt : ℤ) : ℝ)) : EReal) = _
      simp
    · rw [if_neg h, decide_eq_false h]
      show (((((0#32 : BitVec 32).toInt : ℤ) : ℝ)) : EReal) = _
      simp
  unfold k0_pay112
  refine (col_sum _ _ (.inl rfl) rfl c).trans ?_
  refine (Finset.sum_congr rfl fun g _ => hterm g).trans ?_
  rw [← natCast_sum]
  refine congrArg (fun n : ℕ => (n : EReal)) ?_
  rw [Finset.sum_eq_single (up g0)]
  · simp
  · intro g _ hg; simp [hg]
  · simp

/-- The weight taken out by the turn, as a word. -/
theorem stW_eq (hrow : stRow ms = BitVec.ofNat 32 g0.val) (hck : ∀ r c, ck (ix3 (0 : Fin 1) r c) = P g0 r c) :
    stW ms ck = BitVec.ofNat 32 (got P (fun g c => ms (ix2 g c)) (stMax ms) g0)
      ∧ got P (fun g c => ms (ix2 g c)) (stMax ms) g0 ≤ 12288 := by
  have hle : got P (fun g c => ms (ix2 g c)) (stMax ms) g0 ≤ 12288 := by
    unfold got
    calc _ ≤ ∑ _c : Fin 384, ∑ _r : Fin 16, 2 := Finset.sum_le_sum fun c _ => Finset.sum_le_sum fun r _ => by
          split
          · exact wt_le _ _
          · omega
      _ = 12288 := by simp
  refine ⟨?_, hle⟩
  have hs : k0_pay113 (k0_pay111 rowI rowI ms ck) (k0_pay112 rowI ms) = ((got P (fun g c => ms (ix2 g c)) (stMax ms) g0 : ℕ) : EReal) := by
    unfold k0_pay113
    dsimp only
    rw [extract_one]
    refine (total_sum _ _ _ (.inl rfl) rfl _).trans ?_
    rw [ValueIdx.sum_idx2, Fin.sum_univ_one]
    unfold got
    rw [natCast_sum]
    refine Finset.sum_congr rfl fun c _ => ?_
    rw [mulf_at, row_of_vec, weight_apply hrow hck, cols_apply hrow, ← natCast_mul']
    refine congrArg (fun n : ℕ => (n : EReal)) ?_
    rw [Finset.sum_mul]
    refine Finset.sum_congr rfl fun r _ => ?_
    by_cases a : ms (ix2 (up g0) c) = stMax ms <;> by_cases b : P g0 r c = stMax ms <;> simp [a, b]
  show Ideal.fptosi 32 _ = _
  rw [hs]
  exact fptosi_nat _ (by omega)

theorem sqrt_at (x : EReal) : Scalar.sqrt (F := Ideal) (φ := .f32) x = Ideal.sqrt x := rfl

/-- The output lanes after the turn. -/
theorem stOut_apply (w : ℕ) (hw : stW ms ck = BitVec.ofNat 32 w) (hcw : cnt.toNat + w < 2 ^ 31) (j : Fin 16) :
    stOut ms ck out cnt (ix2 (0 : Fin 1) j) = if cnt.toNat ≤ j.val ∧ j.val < cnt.toNat + w then Ideal.sqrt (stMax ms) else out (ix2 (0 : Fin 1) j) := by
  have hd : stOut ms ck out cnt (ix2 (0 : Fin 1) j) = Scalar.select (IntOp.andi (IntOp.cmpi .sge (laneI (ix2 (0 : Fin 1) j)) cnt)
      (IntOp.cmpi .slt (laneI (ix2 (0 : Fin 1) j)) (Scalar.addi cnt (stW ms ck)))) (Scalar.sqrt (k0_pay106 ms)) (out (ix2 (0 : Fin 1) j)) := by
    unfold stOut k0_pay115
    rw [select_apply, andi_at, cmpi_at, cmpi_at, broadcast_apply, broadcast_apply, broadcast_apply]
  have hj := j.isLt
  have hjI : (BitVec.ofNat 32 j.val).toInt = j.val := toInt_small (by omega)
  have hcI : cnt.toInt = cnt.toNat := by
    rw [BitVec.toInt_eq_toNat_of_lt (by omega)]
  have hsI : (cnt + BitVec.ofNat 32 w).toInt = ((cnt.toNat + w : ℕ) : ℤ) := by
    have ht : (cnt + BitVec.ofNat 32 w).toNat = cnt.toNat + w := by
      rw [BitVec.toNat_add, BitVec.toNat_ofNat, Nat.mod_eq_of_lt (a := w) (by omega), Nat.mod_eq_of_lt (by omega)]
    rw [BitVec.toInt_eq_toNat_of_lt (by rw [ht]; omega), ht]
  have hb : IntOp.andi (IntOp.cmpi .sge (laneI (ix2 (0 : Fin 1) j)) cnt) (IntOp.cmpi .slt (laneI (ix2 (0 : Fin 1) j)) (Scalar.addi cnt (stW ms ck)))
      = BitVec.ofBool (decide (cnt.toNat ≤ j.val ∧ j.val < cnt.toNat + w)) := by
    rw [laneI_apply, hw]
    show IntOp.andi (BitVec.ofBool (BitVec.sle cnt (BitVec.ofNat 32 j.val))) (BitVec.ofBool (BitVec.slt (BitVec.ofNat 32 j.val) (cnt + BitVec.ofNat 32 w))) = _
    have e1 : BitVec.sle cnt (BitVec.ofNat 32 j.val) = decide (cnt.toNat ≤ j.val) := by
      rw [BitVec.sle_eq_decide, hjI, hcI]; simp
    have e2 : BitVec.slt (BitVec.ofNat 32 j.val) (cnt + BitVec.ofNat 32 w) = decide (j.val < cnt.toNat + w) := by
      rw [BitVec.slt_eq_decide, hjI, hsI]; simp only [Nat.cast_lt]
    rw [e1, e2]
    by_cases a : cnt.toNat ≤ j.val <;> by_cases b : j.val < cnt.toNat + w <;> simp [a, b, IntOp.andi]
  rw [hd, hb, select_ofBool, sqrt_at]

/-- One turn keeps the invariant; the count does not fall, and grows while below 16. -/
theorem St.step (h : St P ms out cnt) (hP : ∀ g r c, 0 ≤ P g r c)
    (hck : ∀ g0 : Fin 13, stRow ms = BitVec.ofNat 32 g0.val → ∀ r c, ck (ix3 (0 : Fin 1) r c) = P g0 r c) :
    St P (stMs ms ck) (stOut ms ck out cnt) (stCnt ms ck cnt) ∧ cnt.toNat ≤ (stCnt ms ck cnt).toNat
      ∧ (cnt.toNat < 16 → cnt.toNat < (stCnt ms ck cnt).toNat) := by
  obtain ⟨g0, hrow, hg⟩ := h.row
  obtain ⟨hw, hgot⟩ := stW_eq hrow (hck g0 hrow)
  have hcle : cnt.toNat ≤ 159744 := by rw [h.count]; exact taken_le _ _
  have hc' : (stCnt ms ck cnt).toNat = cnt.toNat + got P (fun g c => ms (ix2 g c)) (stMax ms) g0 := by
    show (cnt + stW ms ck).toNat = _
    rw [hw, BitVec.toNat_add, BitVec.toNat_ofNat, Nat.mod_eq_of_lt (b := 2 ^ 32) (a := got _ _ _ _) (by omega), Nat.mod_eq_of_lt (by omega)]
  refine ⟨?_, by omega, fun hlt => ?_⟩
  · unfold St
    rw [hc']
    exact Inv.step h hP (le_stMax ms) (fun g c => stMs_apply hrow (hck g0 hrow) g c)
      (fun j => stOut_apply _ hw (by omega) j)
  · have := Inv.progress h hP (le_stMax ms) hg hlt
    omega

end Cert.Proof.Stream

end
-- ==== Proof.K.Common.lean ====
/-
  What the modules about the launch share: the resource algebra's carrier, the state of the loop as a record over the
  eight streams, and a scratch buffer read as a table of chunks.
-/
module

public import proofs.«01_k».proof.Proof.K.Stream
public import proofs.«01_k».proof.Proof.Gen.KernelIdeal.Launch
public import proofs.«01_k».proof.Proof.Gen.KernelIdeal.Points
public import Idealize.ShloMosaic.Lib.Pipeline.Sound
public import Idealize.ShloMosaic.Lib.Pipeline.Value
public import Idealize.ShloMosaic.Lib.Tactic
public import Idealize.ShloMosaic.Lib.Pipeline.FrameBody
public import Idealize.ShloMosaic.Lib.Pipeline.FrameSuffix

@[expose] public section

set_option maxRecDepth 65536

noncomputable section

namespace Cert.Proof.K

open Idealize.ShloMosaic Idealize.ShloMosaic.TcCoe Idealize.ShloMosaic.ValueIdx
open Idealize.SL Idealize.SL.Sem
open Cert.KernelIdeal Cert.KernelIdeal.Gen Cert.Proof.Words Cert.Proof.Extract Cert.Proof.Stream

/-- The resource algebra's carrier. -/
abbrev UK := UR sig nD τ

/-- The state of one stream in the loop. -/
structure Str where
  ms : FVec Ideal S16x384 .f32
  out : FVec Ideal S1x16 .f32
  cnt : BitVec 32

/-- A table of chunks, as a scratch buffer's contents. -/
abbrev Table := S13x16x384.Idx → EReal
/-- … read by chunk, row and column. -/
abbrev chunks (f : Table) : Fin 13 → Fin 16 → Fin 384 → EReal := fun g r c => f (ix3 g r c)

/-- The chunk a row word picks is inside the table. -/
theorem chk_of_row {g : BitVec 32} {g0 : Fin 13} (h : g = BitVec.ofNat 32 g0.val) : k0_chk1 g := by
  subst h
  unfold k0_chk1 k0_off1
  have h0 := g0.isLt
  have hi : (Scalar.indexCast (BitVec.ofNat 32 g0.val)).toNat = g0.val := by
    show (BitVec.ofNat 32 g0.val).toNat = g0.val
    rw [BitVec.toNat_ofNat, Nat.mod_eq_of_lt (by omega)]
  intro a
  match a with
  | ⟨0, _⟩ => show (Scalar.indexCast (BitVec.ofNat 32 g0.val)).toNat + 1 ≤ 13; omega
  | ⟨1, _⟩ => show 0 + 16 ≤ 16; omega
  | ⟨2, _⟩ => show 0 + 384 ≤ 384; omega

/-- The chunk loaded at row word `g` from a table. -/
abbrev chunkOf (T : Table) (g : BitVec 32) (hg : k0_chk1 g) : Vec Ideal S1x16x384 .f32 := fun x =>
  T ((Rect.unit (s := S13x16x384) (k0_off1 g) S1x16x384.size (k0_off1_inb g hg)).toLoadRect.idx x)

theorem chunkOf_apply (T : Table) {g : BitVec 32} (hg : k0_chk1 g) {g0 : Fin 13} (h : g = BitVec.ofNat 32 g0.val) (r : Fin 16) (c : Fin 384) :
    chunkOf T g hg (ix3 (0 : Fin 1) r c) = chunks T g0 r c := by
  subst h
  have h0 := g0.isLt
  have hi : (Scalar.indexCast (BitVec.ofNat 32 g0.val)).toNat = g0.val := by
    show (BitVec.ofNat 32 g0.val).toNat = g0.val
    rw [BitVec.toNat_ofNat, Nat.mod_eq_of_lt (by omega)]
  show T _ = T _
  congr 1; funext a; apply Fin.ext
  match a with
  | ⟨0, _⟩ => show (Scalar.indexCast (BitVec.ofNat 32 g0.val)).toNat + 1 * 0 = g0.val; omega
  | ⟨1, _⟩ => show 0 + 1 * r.val = r.val; omega
  | ⟨2, _⟩ => show 0 + 1 * c.val = c.val; omega

/-- The streams' states and tables agree: what holds at every turn. -/
def Good (T : Fin 8 → Table) (st : Fin 8 → Str) : Prop := ∀ s, St (chunks (T s)) (st s).ms (st s).out (st s).cnt

/-- The row word of a stream in agreement passes the check of the load. -/
theorem Good.chk {T : Fin 8 → Table} {st : Fin 8 → Str} (h : Good T st) (s : Fin 8) : k0_chk1 (stRow (st s).ms) := by
  obtain ⟨g0, hg, _⟩ := (h s).row
  exact chk_of_row hg

/-- The streams' states after a turn. -/
def turn (T : Fin 8 → Table) (st : Fin 8 → Str) (h : Good T st) : Fin 8 → Str := fun s =>
  ⟨stMs (st s).ms (chunkOf (T s) (stRow (st s).ms) (h.chk s)),
   stOut (st s).ms (chunkOf (T s) (stRow (st s).ms) (h.chk s)) (st s).out (st s).cnt,
   stCnt (st s).ms (chunkOf (T s) (stRow (st s).ms) (h.chk s)) (st s).cnt⟩

theorem Good.turn {T : Fin 8 → Table} {st : Fin 8 → Str} (h : Good T st) (hT : ∀ s i, 0 ≤ T s i) :
    Good T (turn T st h) ∧ (∀ s, (st s).cnt.toNat ≤ (Cert.Proof.K.turn T st h s).cnt.toNat
      ∧ ((st s).cnt.toNat < 16 → (st s).cnt.toNat < (Cert.Proof.K.turn T st h s).cnt.toNat)) := by
  have := fun s => St.step (ck := chunkOf (T s) (stRow (st s).ms) (h.chk s)) (h s) (fun g r c => hT s _)
    (fun g0 hg r c => chunkOf_apply (T s) (h.chk s) hg r c)
  exact ⟨fun s => (this s).1, fun s => (this s).2⟩

/-- How many lanes are still to fill, over the streams. -/
def left (st : Fin 8 → Str) : ℕ := ∑ s, (16 - (st s).cnt.toNat)

theorem left_turn {T : Fin 8 → Table} {st : Fin 8 → Str} (h : Good T st) (hT : ∀ s i, 0 ≤ T s i) (hc : ∃ s, (st s).cnt.toNat < 16) :
    left (turn T st h) < left st := by
  have ht := (h.turn hT).2
  obtain ⟨s0, hs0⟩ := hc
  refine Finset.sum_lt_sum (fun s _ => ?_) ⟨s0, Finset.mem_univ _, ?_⟩
  · have := (ht s).1; omega
  · have := (ht s0).2 hs0; omega

theorem Good.cnt_le {T : Fin 8 → Table} {st : Fin 8 → Str} (h : Good T st) (s : Fin 8) : (st s).cnt.toNat ≤ 159744 := by
  rw [(h s).count]; exact taken_le _ _

/-- The word of one stream's test, and the whole test. -/
abbrev todo (x : BitVec 32) : BitVec 32 := Scalar.select (Scalar.cmpi .slt x 16#32) 1#32 0#32

theorem todo_eq {x : BitVec 32} (h : x.toNat ≤ 159744) : todo x = BitVec.ofNat 32 (if x.toNat < 16 then 1 else 0) := by
  have hs : Scalar.cmpi .slt x 16#32 = BitVec.ofBool (decide (x.toNat < 16)) := by
    show BitVec.ofBool (BitVec.slt x 16#32) = _
    congr 1
    rw [BitVec.slt_eq_decide, BitVec.toInt_eq_toNat_of_lt (by omega)]
    have h16 : (16#32 : BitVec 32).toInt = 16 := by decide
    rw [h16]
    simp
  unfold todo
  rw [hs, select_ofBool]
  split <;> rfl

/-- The loop goes on exactly when some stream has lanes to fill. -/
theorem test_iff {T : Fin 8 → Table} {st : Fin 8 → Str} (h : Good T st) :
    Scalar.cmpi .sgt (Scalar.addi (Scalar.addi (Scalar.addi (Scalar.addi (Scalar.addi (Scalar.addi (Scalar.addi (Scalar.addi 0#32
      (todo (st 0).cnt)) (todo (st 1).cnt)) (todo (st 2).cnt)) (todo (st 3).cnt)) (todo (st 4).cnt)) (todo (st 5).cnt)) (todo (st 6).cnt)) (todo (st 7).cnt)) 0#32 = 1#1
      ↔ ∃ s, (st s).cnt.toNat < 16 := by
  rw [todo_eq (h.cnt_le 0), todo_eq (h.cnt_le 1), todo_eq (h.cnt_le 2), todo_eq (h.cnt_le 3), todo_eq (h.cnt_le 4), todo_eq (h.cnt_le 5),
    todo_eq (h.cnt_le 6), todo_eq (h.cnt_le 7)]
  have hn : ∀ s, (if (st s).cnt.toNat < 16 then 1 else 0 : ℕ) ≤ 1 := fun s => by split <;> omega
  have hz : ∀ s, (if (st s).cnt.toNat < 16 then 1 else 0 : ℕ) = 0 ↔ ¬(st s).cnt.toNat < 16 := fun s => by split <;> simp_all
  generalize hf : (fun s => (if (st s).cnt.toNat < 16 then 1 else 0 : ℕ)) = f at *
  simp only [show ∀ s, (if (st s).cnt.toNat < 16 then 1 else 0 : ℕ) = f s from fun s => congrFun hf s] at *
  have hsum : Scalar.addi (Scalar.addi (Scalar.addi (Scalar.addi (Scalar.addi (Scalar.addi (Scalar.addi (Scalar.addi 0#32
      (BitVec.ofNat 32 (f 0))) (BitVec.ofNat 32 (f 1))) (BitVec.ofNat 32 (f 2))) (BitVec.ofNat 32 (f 3))) (BitVec.ofNat 32 (f 4))) (BitVec.ofNat 32 (f 5)))
      (BitVec.ofNat 32 (f 6))) (BitVec.ofNat 32 (f 7)) = BitVec.ofNat 32 (0 + f 0 + f 1 + f 2 + f 3 + f 4 + f 5 + f 6 + f 7) := by
    simp only [BitVec.ofNat_add]; rfl
  rw [hsum]
  show BitVec.ofBool (BitVec.slt 0#32 (BitVec.ofNat 32 _)) = 1#1 ↔ _
  rw [BitVec.slt_eq_decide, show (0#32 : BitVec 32).toInt = 0 from rfl, toInt_small (by have := hn 0; have := hn 1; have := hn 2; have := hn 3; have := hn 4; have := hn 5; have := hn 6; have := hn 7; omega),
    ofBool_eq_one, decide_eq_true_iff]
  constructor
  · intro hp
    by_contra hne
    have hall : ∀ s, f s = 0 := fun s => (hz s).mpr fun hl => hne ⟨s, hl⟩
    simp [hall] at hp
  · rintro ⟨s, hs⟩
    have hs' : f s ≠ 0 := fun h0 => (hz s).mp h0 hs
    have : (0 : ℤ) < ((0 + f 0 + f 1 + f 2 + f 3 + f 4 + f 5 + f 6 + f 7 : ℕ) : ℤ) := by
      have h1 : f s ≤ 0 + f 0 + f 1 + f 2 + f 3 + f 4 + f 5 + f 6 + f 7 := by
        fin_cases s <;> simp <;> omega
      omega
    exact this

end Cert.Proof.K

end
-- ==== Proof.K.Same.lean ====
/-
  The eight streams run the same instructions, cut at different places: what a stream hands to the next turn is, for each
  of the others, what stream 0's is.
-/
module

public import proofs.«01_k».proof.Proof.K.Stream

@[expose] public section

set_option maxRecDepth 65536

noncomputable section

namespace Cert.Proof.Stream

open Idealize.ShloMosaic Idealize.ShloMosaic.TcCoe Idealize.ShloMosaic.ValueIdx
open Cert.KernelIdeal Cert.KernelIdeal.Gen

variable (ms : FVec Ideal S16x384 .f32) (ck : Vec Ideal S1x16x384 .f32) (out : FVec Ideal S1x16 .f32) (cnt : BitVec 32)

/-- Stream 1's chunk maxima and multiplicity in a turn. -/
theorem same_one :
    stMs ms ck = stMs ms ck
    ∧ k0_pay113 (k0_pay111 rowI rowI ms ck) (k0_pay112 rowI ms) = k0_pay113 (k0_pay111 rowI rowI ms ck) (k0_pay112 rowI ms) := ⟨rfl, rfl⟩

/-- Stream 1's output lanes after a turn. -/
theorem same_out_one :
    k0_pay125 laneI out cnt (k0_pay116 ms) (extractAt ![0, 0, 0] (k0_pay117 rowI ms) inpos_S1x1x1_p0_0_0) (k0_pay119 ms ck) (k0_pay121 rowI ms) (k0_pay122 rowI) 0#32 = stOut ms ck out cnt := id rfl

/-- Stream 2's chunk maxima and multiplicity in a turn. -/
theorem same_two :
    stMs ms ck = stMs ms ck
    ∧ k0_pay113 (k0_pay111 rowI rowI ms ck) (k0_pay112 rowI ms) = k0_pay113 (k0_pay111 rowI rowI ms ck) (k0_pay112 rowI ms) := ⟨rfl, rfl⟩

/-- Stream 2's output lanes after a turn. -/
theorem same_out_two :
    k0_pay134 out (k0_pay132 (k0_pay126 ms)) (k0_pay133 rowI rowI laneI ms cnt (k0_pay126 ms) (extractAt ![0, 0, 0] (k0_pay127 rowI ms) inpos_S1x1x1_p0_0_0) ck) = stOut ms ck out cnt := id rfl

/-- Stream 3's chunk maxima and multiplicity in a turn. -/
theorem same_three :
    stMs ms ck = stMs ms ck
    ∧ k0_pay113 (k0_pay111 rowI rowI ms ck) (k0_pay112 rowI ms) = k0_pay113 (k0_pay111 rowI rowI ms ck) (k0_pay112 rowI ms) := ⟨rfl, rfl⟩

/-- Stream 3's output lanes after a turn. -/
theorem same_out_three :
    k0_pay144 laneI out cnt (k0_pay135 ms) (k0_pay140 rowI rowI ms ck) (k0_pay141 rowI ms) = stOut ms ck out cnt := id rfl

/-- Stream 4's chunk maxima and multiplicity in a turn. -/
theorem same_four :
    stMs ms ck = stMs ms ck
    ∧ k0_pay113 (k0_pay111 rowI rowI ms ck) (k0_pay112 rowI ms) = k0_pay113 (k0_pay111 rowI rowI ms ck) (k0_pay112 rowI ms) := ⟨rfl, rfl⟩

/-- Stream 4's output lanes after a turn. -/
theorem same_out_four :
    k0_pay153 rowI laneI out cnt (k0_pay145 ms) (extractAt ![0, 0, 0] (k0_pay146 rowI ms) inpos_S1x1x1_p0_0_0) (k0_pay148 ms ck) (k0_pay150 rowI ms) 0#32 = stOut ms ck out cnt := id rfl

/-- Stream 5's chunk maxima and multiplicity in a turn. -/
theorem same_five :
    stMs ms ck = stMs ms ck
    ∧ k0_pay113 (k0_pay111 rowI rowI ms ck) (k0_pay112 rowI ms) = k0_pay113 (k0_pay111 rowI rowI ms ck) (k0_pay112 rowI ms) := ⟨rfl, rfl⟩

/-- Stream 5's output lanes after a turn. -/
theorem same_out_five :
    k0_pay162 laneI out (k0_pay160 (k0_pay154 ms)) (k0_pay161 laneI cnt) (Scalar.addi cnt (Scalar.fptosi 32 (k0_pay113 (k0_pay111 rowI rowI ms ck) (k0_pay112 rowI ms)))) = stOut ms ck out cnt := id rfl

/-- Stream 6's chunk maxima and multiplicity in a turn. -/
theorem same_six :
    stMs ms ck = stMs ms ck
    ∧ k0_pay113 (k0_pay111 rowI rowI ms ck) (k0_pay112 rowI ms) = k0_pay113 (k0_pay111 rowI rowI ms ck) (k0_pay112 rowI ms) := ⟨rfl, rfl⟩

/-- Stream 6's output lanes after a turn. -/
theorem same_out_six :
    k0_pay171 laneI out cnt (k0_pay163 ms) (k0_pay167 rowI ms) (k0_pay168 rowI rowI ms ck) = stOut ms ck out cnt := id rfl

/-- Stream 7's chunk maxima and multiplicity in a turn. -/
theorem same_seven :
    stMs ms ck = stMs ms ck
    ∧ k0_pay113 (k0_pay111 rowI rowI ms ck) (k0_pay112 rowI ms) = k0_pay113 (k0_pay111 rowI rowI ms ck) (k0_pay112 rowI ms) := ⟨rfl, rfl⟩

/-- Stream 7's output lanes after a turn. -/
theorem same_out_seven :
    k0_pay7 rowI rowI laneI out cnt (k0_pay172 ms) (extractAt ![0, 0, 0] (k0_pay173 rowI ms) inpos_S1x1x1_p0_0_0) (k0_pay175 ms ck) (k0_pay177 ms) (k0_pay178 rowI ms) = stOut ms ck out cnt := id rfl

end Cert.Proof.Stream

end
-- ==== Proof.K.Loop.lean ====
/-
  The loop's label: called with the streams' states in agreement with the scratch tables, it gives every stream its
  sixteen output lanes filled and leaves the tables as they were. By induction on the lanes still to fill: a turn keeps
  the agreement (`Good.turn`) and fills at least one (`left_turn`), and the loop stops only when none is left.
-/
module

public import proofs.«01_k».proof.Proof.K.Common
public import proofs.«01_k».proof.Proof.K.Same

@[expose] public section

set_option maxRecDepth 65536

noncomputable section

namespace Cert.Proof.K

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf kernel pipe)
open Cert.KernelIdeal Cert.KernelIdeal.Gen Cert.Proof.Words Cert.Proof.Extract Cert.Proof.Stream Cert.Proof.Order

local notation "𝕄" => MT nD τ sig Unit (Elt Ideal) ℕ UK ℕ

/-- The values the label returns. -/
abbrev Ret := FVec Ideal S16x384 .f32 × FVec Ideal S16x384 .f32 × FVec Ideal S16x384 .f32 × FVec Ideal S16x384 .f32 × FVec Ideal S16x384 .f32 × FVec Ideal S16x384 .f32 × FVec Ideal S16x384 .f32 × FVec Ideal S16x384 .f32 × FVec Ideal S1x16 .f32 × FVec Ideal S1x16 .f32 × FVec Ideal S1x16 .f32 × FVec Ideal S1x16 .f32 × FVec Ideal S1x16 .f32 × FVec Ideal S1x16 .f32 × FVec Ideal S1x16 .f32 × FVec Ideal S1x16 .f32 × BitVec 32 × BitVec 32 × BitVec 32 × BitVec 32 × BitVec 32 × BitVec 32 × BitVec 32 × BitVec 32

/-- … as states of the streams, and back. -/
def ofRet (r : Ret) : Fin 8 → FVec Ideal S1x16 .f32 :=
  ![r.2.2.2.2.2.2.2.2.1, r.2.2.2.2.2.2.2.2.2.1, r.2.2.2.2.2.2.2.2.2.2.1, r.2.2.2.2.2.2.2.2.2.2.2.1, r.2.2.2.2.2.2.2.2.2.2.2.2.1,
    r.2.2.2.2.2.2.2.2.2.2.2.2.2.1, r.2.2.2.2.2.2.2.2.2.2.2.2.2.2.1, r.2.2.2.2.2.2.2.2.2.2.2.2.2.2.2.1]

/-- Every lane of the output holds the root of the entry of its rank. -/
def Filled (T : Fin 8 → Table) (out : Fin 8 → FVec Ideal S1x16 .f32) : Prop :=
  ∀ s (j : Fin 16), ∃ v, 0 ≤ v ∧ IsNth wt3 (tab (chunks (T s))) j.val v ∧ out s (ix2 (0 : Fin 1) j) = Ideal.sqrt v

variable (c : Dev nD)

/-- The eight scratch buffers at the tables. -/
def tables (T : Fin 8 → Table) : sProp 𝕄 :=
  iprop((((c : Thread nD τ).loc cc0_scratch0) ↦{fullShare} (T 0)) ∗ (((c : Thread nD τ).loc cc0_scratch1) ↦{fullShare} (T 1))
    ∗ (((c : Thread nD τ).loc cc0_scratch2) ↦{fullShare} (T 2)) ∗ (((c : Thread nD τ).loc cc0_scratch3) ↦{fullShare} (T 3))
    ∗ (((c : Thread nD τ).loc cc0_scratch4) ↦{fullShare} (T 4)) ∗ (((c : Thread nD τ).loc cc0_scratch5) ↦{fullShare} (T 5))
    ∗ (((c : Thread nD τ).loc cc0_scratch6) ↦{fullShare} (T 6)) ∗ (((c : Thread nD τ).loc cc0_scratch7) ↦{fullShare} (T 7)))

/-- The label's specification. -/
def spec (T : Fin 8 → Table) : sWPT 𝕄 Ret := do
  sWPT.consume (tables c T)
  let r ← sWPT.arbitrary
  sWPT.assume (Filled T (ofRet r))
  sWPT.produce (tables c T)
  pure r

theorem spec_apply (T : Fin 8 → Table) (K : Ret → sProp 𝕄) :
    spec c T K = iprop(tables c T ∗ ∀ r : Ret, ⌜Filled T (ofRet r)⌝ -∗ (tables c T -∗ K r)) := rfl

/-- The label's arguments at a state of the streams. -/
abbrev callArgs (i : grid0.Coords) (st : Fin 8 → Str) : (Λ₀ Ideal).Args (1 : (Λ₀ Ideal).Label) :=
  ⟨i, rowI, Memref.whole cc0_scratch0, Memref.isWhole_whole _, negInf, rowI, laneI, Memref.whole cc0_scratch1, Memref.isWhole_whole _,
    Memref.whole cc0_scratch2, Memref.isWhole_whole _, Memref.whole cc0_scratch3, Memref.isWhole_whole _, Memref.whole cc0_scratch4, Memref.isWhole_whole _,
    Memref.whole cc0_scratch5, Memref.isWhole_whole _, Memref.whole cc0_scratch6, Memref.isWhole_whole _, Memref.whole cc0_scratch7, Memref.isWhole_whole _,
    (st 0).ms, (st 1).ms, (st 2).ms, (st 3).ms, (st 4).ms, (st 5).ms, (st 6).ms, (st 7).ms,
    (st 0).out, (st 1).out, (st 2).out, (st 3).out, (st 4).out, (st 5).out, (st 6).out, (st 7).out,
    (st 0).cnt, (st 1).cnt, (st 2).cnt, (st 3).cnt, (st 4).cnt, (st 5).cnt, (st 6).cnt, (st 7).cnt⟩

/-- A stream with its lanes filled holds the roots of the entries of the lanes' ranks. -/
theorem filled_of_done {T : Fin 8 → Table} {st : Fin 8 → Str} (h : Good T st) (hd : ¬∃ s, (st s).cnt.toNat < 16) :
    Filled T fun s => (st s).out := fun s j =>
  (h s).outs j (lt_of_lt_of_le j.isLt (not_lt.mp fun hlt => hd ⟨s, hlt⟩))

/-- A turn's last operation, a call of the label at a state whose body meets the specification. -/
theorem call_turn (i : grid0.Coords) (T : Fin 8 → Table) (st : Fin 8 → Str) (k : ℕ) (E : Set ℕ) {K : Ret → sProp 𝕄}
    (hS : ∀ K, spec c T K ⊢ wp frame (wpE (defs₀ (F := Ideal)) Variants.nat (c : Thread nD τ) (some k)) E (defs₀ (F := Ideal) .tc 1 (callArgs i st)) K) :
    spec c T K ⊢ wp frame (wpE (defs₀ (F := Ideal)) Variants.nat (c : Thread nD τ) (some (k + 1))) E
      (.op (.call (1 : (Λ₀ Ideal).Label) (callArgs i st)) Prog.ret) K := by
  have hK : spec c T K ⊢ spec c T (fun x => wp frame (wpE (defs₀ (F := Ideal)) Variants.nat (c : Thread nD τ) (some (k + 1))) E (Prog.ret x) K) := by
    rw [spec_apply, spec_apply]
    iintro ⟨H, Hk⟩
    isplitl [H]
    · iexact H
    iintro %r %hr H
    rw [wp_ret]; imodintro
    iapply Hk
    · ipureintro; exact hr
    · iexact H
  exact hK.trans (wp_call_spec (ℓ := (1 : (Λ₀ Ideal).Label)) (a := callArgs i st) (k := Prog.ret) (Q := K) Variants.nat (c : Thread nD τ) (some (k + 1)) E (spec c T) k
    (fun u hu => by cases hu; exact Nat.lt_succ_self k) hS)

/-! A load from a stream's scratch buffer reads a chunk. -/

theorem load_0 (T : Table) (ms : FVec Ideal S16x384 .f32) (h : k0_chk1 (stRow ms)) (h' : _) : View.readAt (Elt Ideal) (Memref.whole cc0_scratch0).view
    (Rect.unit (s := S13x16x384) (k0_off1 (extractAt ![0, 0, 0] (k0_pay107 rowI ms) inpos_S1x1x1_p0_0_0)) ![1, 16, 384] h').toLoadRect T = chunkOf T (stRow ms) h := rfl

theorem load_1 (T : Table) (ms : FVec Ideal S16x384 .f32) (h : k0_chk1 (stRow ms)) (h' : _) : View.readAt (Elt Ideal) (Memref.whole cc0_scratch1).view
    (Rect.unit (s := S13x16x384) (k0_off2 (extractAt ![0, 0, 0] (k0_pay117 rowI ms) inpos_S1x1x1_p0_0_0)) ![1, 16, 384] h').toLoadRect T = chunkOf T (stRow ms) h := rfl

theorem load_2 (T : Table) (ms : FVec Ideal S16x384 .f32) (h : k0_chk1 (stRow ms)) (h' : _) : View.readAt (Elt Ideal) (Memref.whole cc0_scratch2).view
    (Rect.unit (s := S13x16x384) (k0_off3 (extractAt ![0, 0, 0] (k0_pay127 rowI ms) inpos_S1x1x1_p0_0_0)) ![1, 16, 384] h').toLoadRect T = chunkOf T (stRow ms) h := rfl

theorem load_3 (T : Table) (ms : FVec Ideal S16x384 .f32) (h : k0_chk1 (stRow ms)) (h' : _) : View.readAt (Elt Ideal) (Memref.whole cc0_scratch3).view
    (Rect.unit (s := S13x16x384) (k0_off4 (extractAt ![0, 0, 0] (k0_pay136 rowI ms) inpos_S1x1x1_p0_0_0)) ![1, 16, 384] h').toLoadRect T = chunkOf T (stRow ms) h := rfl

theorem load_4 (T : Table) (ms : FVec Ideal S16x384 .f32) (h : k0_chk1 (stRow ms)) (h' : _) : View.readAt (Elt Ideal) (Memref.whole cc0_scratch4).view
    (Rect.unit (s := S13x16x384) (k0_off5 (extractAt ![0, 0, 0] (k0_pay146 rowI ms) inpos_S1x1x1_p0_0_0)) ![1, 16, 384] h').toLoadRect T = chunkOf T (stRow ms) h := rfl

theorem load_5 (T : Table) (ms : FVec Ideal S16x384 .f32) (h : k0_chk1 (stRow ms)) (h' : _) : View.readAt (Elt Ideal) (Memref.whole cc0_scratch5).view
    (Rect.unit (s := S13x16x384) (k0_off6 (extractAt ![0, 0, 0] (k0_pay155 rowI ms) inpos_S1x1x1_p0_0_0)) ![1, 16, 384] h').toLoadRect T = chunkOf T (stRow ms) h := rfl

theorem load_6 (T : Table) (ms : FVec Ideal S16x384 .f32) (h : k0_chk1 (stRow ms)) (h' : _) : View.readAt (Elt Ideal) (Memref.whole cc0_scratch6).view
    (Rect.unit (s := S13x16x384) (k0_off7 (extractAt ![0, 0, 0] (k0_pay164 rowI ms) inpos_S1x1x1_p0_0_0)) ![1, 16, 384] h').toLoadRect T = chunkOf T (stRow ms) h := rfl

theorem load_7 (T : Table) (ms : FVec Ideal S16x384 .f32) (h : k0_chk1 (stRow ms)) (h' : _) : View.readAt (Elt Ideal) (Memref.whole cc0_scratch7).view
    (Rect.unit (s := S13x16x384) (k0_off8 (extractAt ![0, 0, 0] (k0_pay173 rowI ms) inpos_S1x1x1_p0_0_0)) ![1, 16, 384] h').toLoadRect T = chunkOf T (stRow ms) h := rfl

set_option maxHeartbeats 1000000 in
/-- The label's body meets its specification. -/
theorem spec_le (E : Set ℕ) (i : grid0.Coords) (T : Fin 8 → Table) (hT : ∀ s i, 0 ≤ T s i) :
    ∀ k (st : Fin 8 → Str), Good T st → left st ≤ k → ∀ K, spec c T K
      ⊢ wp frame (wpE (defs₀ (F := Ideal)) Variants.nat (c : Thread nD τ) (some k)) E (defs₀ (F := Ideal) .tc 1 (callArgs i st)) K := by
  intro k
  induction k with
  | zero =>
    intro st h hk K
    rw [spec_apply]
    have hd : ¬∃ s, (st s).cnt.toNat < 16 := fun hc => by
      exact absurd (lt_of_lt_of_le (left_turn h hT hc) hk) (Nat.not_lt_zero _)
    have htest := (test_iff h).not.mpr hd
    show _ ⊢ wp frame (wpE (defs₀ (F := Ideal)) Variants.nat (c : Thread nD τ) (some 0)) E
      (cc0_while1 i rowI (Memref.whole cc0_scratch0) (Memref.isWhole_whole _) negInf rowI laneI (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) (Memref.whole cc0_scratch6) (Memref.isWhole_whole _) (Memref.whole cc0_scratch7) (Memref.isWhole_whole _)
        (st 0).ms (st 1).ms (st 2).ms (st 3).ms (st 4).ms (st 5).ms (st 6).ms (st 7).ms
        (st 0).out (st 1).out (st 2).out (st 3).out (st 4).out (st 5).out (st 6).out (st 7).out
        (st 0).cnt (st 1).cnt (st 2).cnt (st 3).cnt (st 4).cnt (st 5).cnt (st 6).cnt (st 7).cnt) K
    rw [cc0_while1_eq_skeleton]; unfold cc0_while1_skel
    simp only [htest, ↓reduceIte, Prog.pure_eq_ret]
    iintro ⟨H, Hk⟩
    rw [wp_ret]; imodintro
    iapply Hk
    · ipureintro; exact fun s j => by
        have := filled_of_done h hd s j
        fin_cases s <;> exact this
    · iexact H
  | succ k ih =>
    intro st h hk K
    rw [spec_apply]
    show _ ⊢ wp frame (wpE (defs₀ (F := Ideal)) Variants.nat (c : Thread nD τ) (some (k + 1))) E
      (cc0_while1 i rowI (Memref.whole cc0_scratch0) (Memref.isWhole_whole _) negInf rowI laneI (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) (Memref.whole cc0_scratch6) (Memref.isWhole_whole _) (Memref.whole cc0_scratch7) (Memref.isWhole_whole _)
        (st 0).ms (st 1).ms (st 2).ms (st 3).ms (st 4).ms (st 5).ms (st 6).ms (st 7).ms
        (st 0).out (st 1).out (st 2).out (st 3).out (st 4).out (st 5).out (st 6).out (st 7).out
        (st 0).cnt (st 1).cnt (st 2).cnt (st 3).cnt (st 4).cnt (st 5).cnt (st 6).cnt (st 7).cnt) K
    rw [cc0_while1_eq_skeleton]; unfold cc0_while1_skel
    by_cases hc : ∃ s, (st s).cnt.toNat < 16
    · have htest := (test_iff h).mpr hc
      have hlt := left_turn h hT hc
      have hle : left (turn T st h) ≤ k := Nat.le_of_lt_succ (lt_of_lt_of_le hlt hk)
      have hgood : Good T (turn T st h) := (h.turn hT).1
      have key : ∀ st', Good T st' → left st' ≤ k → ∀ K : Ret → sProp 𝕄, spec c T K
          ⊢ wp frame (wpE (defs₀ (F := Ideal)) Variants.nat (c : Thread nD τ) (some (k + 1))) E
            (.op (.call (1 : (Λ₀ Ideal).Label) (callArgs i st')) Prog.ret) K := by
        intro st' hg hl K
        have hn := ih st' hg hl
        exact call_turn c i T st' k E hn
      have hturn := key (turn T st h) hgood hle K
      simp only [htest, ↓reduceIte]
      rw [k0_part14_eq_skeleton, k0_part15_eq_skeleton, k0_part16_eq_skeleton, k0_part17_eq_skeleton, k0_part18_eq_skeleton,
        k0_part19_eq_skeleton, k0_part20_eq_skeleton, k0_part21_eq_skeleton, k0_part22_eq_skeleton, k0_part23_eq_skeleton]
      unfold k0_part14_skel k0_part15_skel k0_part16_skel k0_part17_skel k0_part18_skel k0_part19_skel k0_part20_skel k0_part21_skel k0_part22_skel k0_part23_skel
      simp only [Prog.lift, Prog.bind_op, Prog.bind_ret, Prog.pure_eq_ret]
      unfold tables
      iintro ⟨⟨H0, H1, H2, H3, H4, H5, H6, H7⟩, Hk⟩
      iapply (wp_assume Variants.nat (c : Thread nD τ) (some (k + 1)) E (h.chk 0))
      iapply (wp_load Variants.nat (c : Thread nD τ) (some (k + 1)) E (m := Memref.whole cc0_scratch0) (Finset.subset_univ _)) $$ H0; iintro H0
      iapply (wp_assume Variants.nat (c : Thread nD τ) (some (k + 1)) E (h.chk 1))
      iapply (wp_load Variants.nat (c : Thread nD τ) (some (k + 1)) E (m := Memref.whole cc0_scratch1) (Finset.subset_univ _)) $$ H1; iintro H1
      iapply (wp_assume Variants.nat (c : Thread nD τ) (some (k + 1)) E (h.chk 2))
      iapply (wp_load Variants.nat (c : Thread nD τ) (some (k + 1)) E (m := Memref.whole cc0_scratch2) (Finset.subset_univ _)) $$ H2; iintro H2
      iapply (wp_assume Variants.nat (c : Thread nD τ) (some (k + 1)) E (h.chk 3))
      iapply (wp_load Variants.nat (c : Thread nD τ) (some (k + 1)) E (m := Memref.whole cc0_scratch3) (Finset.subset_univ _)) $$ H3; iintro H3
      iapply (wp_assume Variants.nat (c : Thread nD τ) (some (k + 1)) E (h.chk 4))
      iapply (wp_load Variants.nat (c : Thread nD τ) (some (k + 1)) E (m := Memref.whole cc0_scratch4) (Finset.subset_univ _)) $$ H4; iintro H4
      iapply (wp_assume Variants.nat (c : Thread nD τ) (some (k + 1)) E (h.chk 5))
      iapply (wp_load Variants.nat (c : Thread nD τ) (some (k + 1)) E (m := Memref.whole cc0_scratch5) (Finset.subset_univ _)) $$ H5; iintro H5
      iapply (wp_assume Variants.nat (c : Thread nD τ) (some (k + 1)) E (h.chk 6))
      iapply (wp_load Variants.nat (c : Thread nD τ) (some (k + 1)) E (m := Memref.whole cc0_scratch6) (Finset.subset_univ _)) $$ H6; iintro H6
      iapply (wp_assume Variants.nat (c : Thread nD τ) (some (k + 1)) E (h.chk 7))
      iapply (wp_load Variants.nat (c : Thread nD τ) (some (k + 1)) E (m := Memref.whole cc0_scratch7) (Finset.subset_univ _)) $$ H7; iintro H7
      simp only [load_0 (T 0) (st 0).ms (h.chk 0), load_1 (T 1) (st 1).ms (h.chk 1), load_2 (T 2) (st 2).ms (h.chk 2), load_3 (T 3) (st 3).ms (h.chk 3), load_4 (T 4) (st 4).ms (h.chk 4), load_5 (T 5) (st 5).ms (h.chk 5), load_6 (T 6) (st 6).ms (h.chk 6), load_7 (T 7) (st 7).ms (h.chk 7),
        same_out_one, same_one, same_out_two, same_two, same_out_three, same_three, same_out_four, same_four, same_out_five, same_five, same_out_six, same_six, same_out_seven, same_seven]
      iapply hturn
      rw [spec_apply]; unfold tables
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact Hk
    · have htest := (test_iff h).not.mpr hc
      simp only [htest, ↓reduceIte, Prog.pure_eq_ret]
      iintro ⟨H, Hk⟩
      rw [wp_ret]; imodintro
      iapply Hk
      · ipureintro; exact fun s j => by
          have := filled_of_done h hc s j
          fin_cases s <;> exact this
      · iexact H

end Cert.Proof.K

end
-- ==== Proof.K.Start.lean ====
/-
  Where a stream starts: from the 208 × 384 block of powers `p`, the table of its thirteen chunks of sixteen rows and the
  table of the chunks' column maxima, which agree (`St.start`).
-/
module

public import proofs.«01_k».proof.Proof.K.Stream

@[expose] public section

set_option maxRecDepth 65536

noncomputable section

namespace Cert.Proof.Stream

open Idealize.ShloMosaic Idealize.ShloMosaic.TcCoe Idealize.ShloMosaic.ValueIdx Idealize.ShloMosaic.Ideal
open Cert.KernelIdeal Cert.KernelIdeal.Gen Cert.Proof.Words Cert.Proof.Extract

/-- The column maxima of the sixteen rows from row `o`, as one row. -/
abbrev rowMax (p : FVec Ideal S208x384 .f32) (o : ℕ) (h : S208x384.Slices ![o, 0] S16x384) : FVec Ideal S1x384 .f32 :=
  shapeCast S1x384 (multiReduction .maximumf [0] S384 (extractStridedSlice S16x384 ![o, 0] p h) 0xFF800000#32 reduces_S16x384_S384 (.inl rfl) rfl)
    shapeCasts_S384_S1x384

/-- The column maxima of the thirteen chunks, and three rows of −∞ below them. -/
def msOf (p : FVec Ideal S208x384 .f32) : FVec Ideal S16x384 .f32 :=
  concatenate S16x384 0 [⟨S1x384, rowMax p 0 slices_S208x384_o0_0_S16x384⟩, ⟨S1x384, rowMax p 16 slices_S208x384_o16_0_S16x384⟩,
    ⟨S1x384, rowMax p 32 slices_S208x384_o32_0_S16x384⟩, ⟨S1x384, rowMax p 48 slices_S208x384_o48_0_S16x384⟩,
    ⟨S1x384, rowMax p 64 slices_S208x384_o64_0_S16x384⟩, ⟨S1x384, rowMax p 80 slices_S208x384_o80_0_S16x384⟩,
    ⟨S1x384, rowMax p 96 slices_S208x384_o96_0_S16x384⟩, ⟨S1x384, rowMax p 112 slices_S208x384_o112_0_S16x384⟩,
    ⟨S1x384, rowMax p 128 slices_S208x384_o128_0_S16x384⟩, ⟨S1x384, rowMax p 144 slices_S208x384_o144_0_S16x384⟩,
    ⟨S1x384, rowMax p 160 slices_S208x384_o160_0_S16x384⟩, ⟨S1x384, rowMax p 176 slices_S208x384_o176_0_S16x384⟩,
    ⟨S1x384, rowMax p 192 slices_S208x384_o192_0_S16x384⟩, ⟨S3x384, broadcast S3x384 negInf⟩]
    concatenates_S1x384_S1x384_S1x384_S1x384_S1x384_S1x384_S1x384_S1x384_S1x384_S1x384_S1x384_S1x384_S1x384_S3x384_S16x384_d0

/-- Row `r` of chunk `g`. -/
abbrev at16 (g : Fin 13) (r : Fin 16) : Fin 208 := ⟨16 * g.val + r.val, by omega⟩

variable (p : FVec Ideal S208x384 .f32)

theorem rowMax_apply (o : ℕ) (h : S208x384.Slices ![o, 0] S16x384) (ho : o + 16 ≤ 208) (c : Fin 384) :
    rowMax p o h (ix2 (0 : Fin 1) c) = Finset.univ.sup fun r : Fin 16 => p (ix2 (⟨o + r.val, by omega⟩ : Fin 208) c) := by
  unfold rowMax
  rw [row_of_vec]
  refine (col_max _ _ (.inl rfl) rfl c).trans (congrArg (Finset.sup Finset.univ) (funext fun r => ?_))
  refine extractStridedSlice_apply _ _ _ _ _ fun a => ?_
  match a with
  | ⟨0, _⟩ => rfl
  | ⟨1, _⟩ => show c.val = 0 + c.val; omega

/-- Row `g` of the maxima. -/
theorem msOf_apply (g : Fin 13) (c : Fin 384) : msOf p (ix2 (up g) c) = Finset.univ.sup fun r : Fin 16 => p (ix2 (at16 g r) c) := by
  have h (o : ℕ) (hs : S208x384.Slices ![o, 0] S16x384) (ho : o = 16 * g.val) (hm : msOf p (ix2 (up g) c) = rowMax p o hs (ix2 (0 : Fin 1) c)) :
      msOf p (ix2 (up g) c) = Finset.univ.sup fun r : Fin 16 => p (ix2 (at16 g r) c) := by
    subst ho
    rw [hm, rowMax_apply p _ hs (by omega)]
  match g with
  | ⟨0, _⟩ => exact h 0 _ rfl rfl
  | ⟨1, _⟩ => exact h 16 _ rfl rfl
  | ⟨2, _⟩ => exact h 32 _ rfl rfl
  | ⟨3, _⟩ => exact h 48 _ rfl rfl
  | ⟨4, _⟩ => exact h 64 _ rfl rfl
  | ⟨5, _⟩ => exact h 80 _ rfl rfl
  | ⟨6, _⟩ => exact h 96 _ rfl rfl
  | ⟨7, _⟩ => exact h 112 _ rfl rfl
  | ⟨8, _⟩ => exact h 128 _ rfl rfl
  | ⟨9, _⟩ => exact h 144 _ rfl rfl
  | ⟨10, _⟩ => exact h 160 _ rfl rfl
  | ⟨11, _⟩ => exact h 176 _ rfl rfl
  | ⟨12, _⟩ => exact h 192 _ rfl rfl

/-- The rows below the thirteen hold −∞. -/
theorem msOf_pad (g : Fin 16) (c : Fin 384) (hg : 13 ≤ g.val) : msOf p (ix2 g c) = ⊥ := by
  have hb : (broadcast S3x384 negInf : FVec Ideal S3x384 .f32) = fun _ => ⊥ := funext fun _ => ofBits_neg_inf
  have h (k : Fin 3) (hm : msOf p (ix2 g c) = (broadcast S3x384 negInf : FVec Ideal S3x384 .f32) (ix2 k c)) : msOf p (ix2 g c) = ⊥ := by
    rw [hm, hb]
  match g, hg with
  | ⟨13, _⟩, _ => exact h 0 rfl
  | ⟨14, _⟩, _ => exact h 1 rfl
  | ⟨15, _⟩, _ => exact h 2 rfl
  | ⟨n + 16, hn⟩, _ => exact absurd hn (by omega)

/-- The table of the chunks, read by chunk, row and column. -/
theorem table_apply (g : Fin 13) (r : Fin 16) (c : Fin 384) : k0_pay19 p (ix3 g r c) = p (ix2 (at16 g r) c) := by
  unfold k0_pay19
  rw [shapeCast_self]
  refine shapeCast_apply _ _ _ _ ?_
  rw [Shape.rowMajor_val_two, Shape.rowMajor_val_three]
  show (16 * g.val + r.val) * 384 + c.val = (g.val * 16 + r.val) * 384 + c.val
  omega

/-- The stream's start is in agreement. -/
theorem St.start (out : FVec Ideal S1x16 .f32) : St (fun g r c => k0_pay19 p (ix3 g r c)) (msOf p) out 0#32 := by
  refine Inv.init (fun g r c => k0_pay19 p (ix3 g r c)) Ideal.sqrt _ (fun g r c => ?_) (fun g c => ?_) (fun g c hg => msOf_pad p g c hg)
  · rw [msOf_apply, table_apply]
    exact Finset.le_sup (f := fun r : Fin 16 => p (ix2 (at16 g r) c)) (Finset.mem_univ r)
  · obtain ⟨r, _, hr⟩ := Finset.exists_mem_eq_sup Finset.univ Finset.univ_nonempty fun r : Fin 16 => p (ix2 (at16 g r) c)
    exact ⟨r, by rw [msOf_apply, table_apply]; exact hr⟩

end Cert.Proof.Stream

end
-- ==== Proof.K.SameStart.lean ====
/-
  The eight streams compute their starts by the same instructions, cut at different places: each stream's block of powers
  is `pw` of its image, its table of chunk maxima is `msOf` of that, its scratch table `k0_pay19` of it.
-/
module

public import proofs.«01_k».proof.Proof.K.Start

@[expose] public section

set_option maxRecDepth 65536

noncomputable section

namespace Cert.Proof.Stream

open Idealize.ShloMosaic Idealize.ShloMosaic.TcCoe Idealize.ShloMosaic.ValueIdx
open Cert.KernelIdeal Cert.KernelIdeal.Gen

variable (fr fi : Vec Ideal S208x384 .bf16) (a b : Vec Ideal S384x384 .bf16) (x : Vec Ideal S1x384x384 .bf16)

/-- The block of powers of an image `x`, from the four twiddle tables. -/
abbrev pw : FVec Ideal S208x384 .f32 := k0_pay12 fr fi a b x

/-- Stream 0's chunk maxima. -/
theorem start_ms_zero : k0_pay18 (k0_pay12 fr fi a b x) (k0_pay13 fr fi a b x) (k0_pay14 fr fi a b x) (k0_pay15 fr fi a b x) (k0_pay16 fr fi a b x) (k0_pay17 fr fi a b x) = msOf (pw fr fi a b x) := id rfl

/-- Stream 1's chunk maxima. -/
theorem start_ms_one : k0_pay38 (k0_pay25 (k0_pay10 a) (k0_pay11 b) (k0_pay21 (k0_pay8 fr) x) (k0_pay22 (k0_pay9 fi) x) (k0_pay23 (k0_pay8 fr) (k0_pay9 fi) (k0_pay10 a) (k0_pay11 b) x)) (k0_pay26 (k0_pay10 a) (k0_pay11 b) (k0_pay21 (k0_pay8 fr) x) (k0_pay22 (k0_pay9 fi) x) (k0_pay23 (k0_pay8 fr) (k0_pay9 fi) (k0_pay10 a) (k0_pay11 b) x)) (k0_pay27 (k0_pay10 a) (k0_pay11 b) (k0_pay21 (k0_pay8 fr) x) (k0_pay22 (k0_pay9 fi) x) (k0_pay23 (k0_pay8 fr) (k0_pay9 fi) (k0_pay10 a) (k0_pay11 b) x)) (k0_pay28 (k0_pay10 a) (k0_pay11 b) (k0_pay21 (k0_pay8 fr) x) (k0_pay22 (k0_pay9 fi) x) (k0_pay23 (k0_pay8 fr) (k0_pay9 fi) (k0_pay10 a) (k0_pay11 b) x)) (k0_pay29 (k0_pay10 a) (k0_pay11 b) (k0_pay21 (k0_pay8 fr) x) (k0_pay22 (k0_pay9 fi) x) (k0_pay23 (k0_pay8 fr) (k0_pay9 fi) (k0_pay10 a) (k0_pay11 b) x)) (k0_pay30 (k0_pay10 a) (k0_pay11 b) (k0_pay21 (k0_pay8 fr) x) (k0_pay22 (k0_pay9 fi) x) (k0_pay23 (k0_pay8 fr) (k0_pay9 fi) (k0_pay10 a) (k0_pay11 b) x)) (k0_pay31 (k0_pay10 a) (k0_pay11 b) (k0_pay21 (k0_pay8 fr) x) (k0_pay22 (k0_pay9 fi) x) (k0_pay23 (k0_pay8 fr) (k0_pay9 fi) (k0_pay10 a) (k0_pay11 b) x)) (k0_pay32 (k0_pay10 a) (k0_pay11 b) (k0_pay21 (k0_pay8 fr) x) (k0_pay22 (k0_pay9 fi) x) (k0_pay23 (k0_pay8 fr) (k0_pay9 fi) (k0_pay10 a) (k0_pay11 b) x)) (k0_pay33 (k0_pay10 a) (k0_pay11 b) (k0_pay21 (k0_pay8 fr) x) (k0_pay22 (k0_pay9 fi) x) (k0_pay23 (k0_pay8 fr) (k0_pay9 fi) (k0_pay10 a) (k0_pay11 b) x)) (k0_pay34 (k0_pay10 a) (k0_pay11 b) (k0_pay21 (k0_pay8 fr) x) (k0_pay22 (k0_pay9 fi) x) (k0_pay23 (k0_pay8 fr) (k0_pay9 fi) (k0_pay10 a) (k0_pay11 b) x)) (k0_pay35 (k0_pay10 a) (k0_pay11 b) (k0_pay21 (k0_pay8 fr) x) (k0_pay22 (k0_pay9 fi) x) (k0_pay23 (k0_pay8 fr) (k0_pay9 fi) (k0_pay10 a) (k0_pay11 b) x)) (k0_pay36 (k0_pay10 a) (k0_pay11 b) (k0_pay21 (k0_pay8 fr) x) (k0_pay22 (k0_pay9 fi) x) (k0_pay23 (k0_pay8 fr) (k0_pay9 fi) (k0_pay10 a) (k0_pay11 b) x)) (k0_pay37 (k0_pay10 a) (k0_pay11 b) (k0_pay21 (k0_pay8 fr) x) (k0_pay22 (k0_pay9 fi) x) (k0_pay23 (k0_pay8 fr) (k0_pay9 fi) (k0_pay10 a) (k0_pay11 b) x)) = msOf (pw fr fi a b x) := id rfl

/-- Stream 1's scratch table. -/
theorem start_tab_one : k0_pay39 (k0_pay24 (k0_pay10 a) (k0_pay11 b) (k0_pay21 (k0_pay8 fr) x) (k0_pay22 (k0_pay9 fi) x) (k0_pay23 (k0_pay8 fr) (k0_pay9 fi) (k0_pay10 a) (k0_pay11 b) x)) = k0_pay19 (pw fr fi a b x) := id rfl

/-- Stream 2's chunk maxima. -/
theorem start_ms_two : k0_pay48 (k0_pay40 (k0_pay8 fr) (k0_pay9 fi) (k0_pay10 a) (k0_pay11 b) x) (k0_pay41 (k0_pay8 fr) (k0_pay9 fi) (k0_pay10 a) (k0_pay11 b) x) (k0_pay42 (k0_pay8 fr) (k0_pay9 fi) (k0_pay10 a) (k0_pay11 b) x) (k0_pay43 (k0_pay8 fr) (k0_pay9 fi) (k0_pay10 a) (k0_pay11 b) x) (k0_pay44 (k0_pay8 fr) (k0_pay9 fi) (k0_pay10 a) (k0_pay11 b) x) (k0_pay45 (k0_pay8 fr) (k0_pay9 fi) (k0_pay10 a) (k0_pay11 b) x) (k0_pay46 (k0_pay8 fr) (k0_pay9 fi) (k0_pay10 a) (k0_pay11 b) x) (k0_pay47 (k0_pay8 fr) (k0_pay9 fi) (k0_pay10 a) (k0_pay11 b) x) = msOf (pw fr fi a b x) := id rfl

/-- Stream 2's scratch table. -/
theorem start_tab_two : k0_pay49 (k0_pay40 (k0_pay8 fr) (k0_pay9 fi) (k0_pay10 a) (k0_pay11 b) x) = k0_pay19 (pw fr fi a b x) := id rfl

/-- Stream 3's chunk maxima. -/
theorem start_ms_three : k0_pay56 (k0_pay53 (k0_pay8 fr) (k0_pay9 fi) (k0_pay10 a) (k0_pay11 b) x) (k0_pay54 (k0_pay8 fr) (k0_pay9 fi) (k0_pay10 a) (k0_pay11 b) x) = msOf (pw fr fi a b x) := id rfl

/-- Stream 3's scratch table. -/
theorem start_tab_three : k0_pay58 (k0_pay57 (k0_pay53 (k0_pay8 fr) (k0_pay9 fi) (k0_pay10 a) (k0_pay11 b) x) (k0_pay54 (k0_pay8 fr) (k0_pay9 fi) (k0_pay10 a) (k0_pay11 b) x)) = k0_pay19 (pw fr fi a b x) := id rfl

/-- Stream 4's chunk maxima. -/
theorem start_ms_four : k0_pay68 (k0_pay59 (k0_pay8 fr) (k0_pay9 fi) (k0_pay10 a) (k0_pay11 b) x) (k0_pay60 (k0_pay8 fr) (k0_pay9 fi) (k0_pay10 a) (k0_pay11 b) x) (k0_pay61 (k0_pay8 fr) (k0_pay9 fi) (k0_pay10 a) (k0_pay11 b) x) (k0_pay62 (k0_pay8 fr) (k0_pay9 fi) (k0_pay10 a) (k0_pay11 b) x) (k0_pay63 (k0_pay8 fr) (k0_pay9 fi) (k0_pay10 a) (k0_pay11 b) x) (k0_pay64 (k0_pay8 fr) (k0_pay9 fi) (k0_pay10 a) (k0_pay11 b) x) (k0_pay65 (k0_pay8 fr) (k0_pay9 fi) (k0_pay10 a) (k0_pay11 b) x) (k0_pay66 (k0_pay8 fr) (k0_pay9 fi) (k0_pay10 a) (k0_pay11 b) x) (k0_pay67 (k0_pay8 fr) (k0_pay9 fi) (k0_pay10 a) (k0_pay11 b) x) = msOf (pw fr fi a b x) := id rfl

/-- Stream 4's scratch table. -/
theorem start_tab_four : k0_pay69 (k0_pay59 (k0_pay8 fr) (k0_pay9 fi) (k0_pay10 a) (k0_pay11 b) x) = k0_pay19 (pw fr fi a b x) := id rfl

/-- Stream 5's chunk maxima. -/
theorem start_ms_five : k0_pay72 (k0_pay70 (k0_pay8 fr) (k0_pay9 fi) (k0_pay10 a) (k0_pay11 b) x) (k0_pay71 (k0_pay8 fr) (k0_pay9 fi) (k0_pay10 a) (k0_pay11 b) x) = msOf (pw fr fi a b x) := id rfl

/-- Stream 5's scratch table. -/
theorem start_tab_five : k0_pay73 (k0_pay70 (k0_pay8 fr) (k0_pay9 fi) (k0_pay10 a) (k0_pay11 b) x) = k0_pay19 (pw fr fi a b x) := id rfl

/-- Stream 6's chunk maxima. -/
theorem start_ms_six : k0_pay85 (k0_pay74 (k0_pay8 fr) (k0_pay9 fi) (k0_pay10 a) (k0_pay11 b) x) (k0_pay75 (k0_pay8 fr) (k0_pay9 fi) (k0_pay10 a) (k0_pay11 b) x) (k0_pay76 (k0_pay8 fr) (k0_pay9 fi) (k0_pay10 a) (k0_pay11 b) x) (k0_pay77 (k0_pay8 fr) (k0_pay9 fi) (k0_pay10 a) (k0_pay11 b) x) (k0_pay78 (k0_pay8 fr) (k0_pay9 fi) (k0_pay10 a) (k0_pay11 b) x) (k0_pay79 (k0_pay8 fr) (k0_pay9 fi) (k0_pay10 a) (k0_pay11 b) x) (k0_pay80 (k0_pay8 fr) (k0_pay9 fi) (k0_pay10 a) (k0_pay11 b) x) (k0_pay81 (k0_pay8 fr) (k0_pay9 fi) (k0_pay10 a) (k0_pay11 b) x) (k0_pay82 (k0_pay8 fr) (k0_pay9 fi) (k0_pay10 a) (k0_pay11 b) x) (k0_pay83 (k0_pay8 fr) (k0_pay9 fi) (k0_pay10 a) (k0_pay11 b) x) (k0_pay84 (k0_pay8 fr) (k0_pay9 fi) (k0_pay10 a) (k0_pay11 b) x) = msOf (pw fr fi a b x) := id rfl

/-- Stream 6's scratch table. -/
theorem start_tab_six : k0_pay86 (k0_pay74 (k0_pay8 fr) (k0_pay9 fi) (k0_pay10 a) (k0_pay11 b) x) = k0_pay19 (pw fr fi a b x) := id rfl

/-- Stream 7's chunk maxima. -/
theorem start_ms_seven : k0_pay91 (k0_pay87 (k0_pay8 fr) (k0_pay9 fi) (k0_pay10 a) (k0_pay11 b) x) (k0_pay88 (k0_pay8 fr) (k0_pay9 fi) (k0_pay10 a) (k0_pay11 b) x) (k0_pay89 (k0_pay8 fr) (k0_pay9 fi) (k0_pay10 a) (k0_pay11 b) x) (k0_pay90 (k0_pay8 fr) (k0_pay9 fi) (k0_pay10 a) (k0_pay11 b) x) = msOf (pw fr fi a b x) := id rfl

/-- Stream 7's scratch table. -/
theorem start_tab_seven : k0_pay92 (k0_pay87 (k0_pay8 fr) (k0_pay9 fi) (k0_pay10 a) (k0_pay11 b) x) = k0_pay19 (pw fr fi a b x) := id rfl

end Cert.Proof.Stream

end
-- ==== Proof.K.Blocks.lean ====
/-
  The blocks of one grid step: an image of the eight, the value ranked `j` in a table of powers, the block of outputs;
  and the output buffer filled a row at a time.
-/
module

public import proofs.«01_k».proof.Proof.K.Loop
public import proofs.«01_k».proof.Proof.K.SameStart

@[expose] public section

set_option maxRecDepth 65536

noncomputable section

namespace Cert.Proof.K

open Idealize.ShloMosaic Idealize.ShloMosaic.TcCoe Idealize.ShloMosaic.ValueIdx
open Cert.KernelIdeal Cert.KernelIdeal.Gen Cert.Proof.Words Cert.Proof.Extract Cert.Proof.Stream Cert.Proof.Order

/-- Image `s` of a block of eight. -/
def img (X : Vec Ideal S8x384x384 .bf16) (s : Fin 8) : Vec Ideal S1x384x384 .bf16 := fun i => X (ix3 s (i 1) (i 2))

/-- A load of one image from a buffer that holds the eight. -/
theorem load_img {κ : Kind} {sp : Space} (m : Memref sig κ sp S8x384x384 .bf16) (f : m.view.ty.Contents (Elt Ideal)) (s : ℕ) (hs : s < 8) (h' : _) :
    m.view.readAt (Elt Ideal) (Rect.unit (s := S8x384x384) ![s, 0, 0] ![1, 384, 384] h').toLoadRect f = img (m.view.read (Elt Ideal) f) ⟨s, hs⟩ := by
  funext i
  show m.view.read (Elt Ideal) f _ = m.view.read (Elt Ideal) f _
  congr 1; funext a; apply Fin.ext
  have h0 : (i 0).val = 0 := Nat.lt_one_iff.mp (i 0).isLt
  match a with
  | ⟨0, _⟩ => show s + 1 * (i 0).val = s; omega
  | ⟨1, _⟩ => show 0 + 1 * (i 1).val = (i 1).val; omega
  | ⟨2, _⟩ => show 0 + 1 * (i 2).val = (i 2).val; omega

/-- A load of a whole table. -/
theorem load_two {κ : Kind} {sp : Space} {d0 d1 : ℕ} {e : EltTy} (m : Memref sig κ sp ⟨2, ![d0, d1]⟩ e) (f : m.view.ty.Contents (Elt Ideal)) (h' : _) :
    m.view.readAt (Elt Ideal) (Rect.unit (s := ⟨2, ![d0, d1]⟩) ![0, 0] ![d0, d1] h').toLoadRect f = m.view.read (Elt Ideal) f := by
  funext i
  show m.view.read (Elt Ideal) f _ = m.view.read (Elt Ideal) f _
  congr 1; funext a; apply Fin.ext
  match a with
  | ⟨0, _⟩ => show 0 + 1 * (i 0).val = (i 0).val; omega
  | ⟨1, _⟩ => show 0 + 1 * (i 1).val = (i 1).val; omega

/-- The powers are no less than zero. -/
theorem pw_nonneg (fr fi : Vec Ideal S208x384 .bf16) (a b : Vec Ideal S384x384 .bf16) (x : Vec Ideal S1x384x384 .bf16) (i : S208x384.Idx) :
    0 ≤ pw fr fi a b x i := by
  have hsq : ∀ u : EReal, 0 ≤ u * u := fun u => by
    rcases le_total 0 u with h | h
    · exact mul_nonneg h h
    · have := EReal.neg_nonneg.mpr h
      have h2 := mul_nonneg this this
      rwa [neg_mul_neg] at h2
  unfold pw k0_pay12
  exact add_nonneg (hsq _) (hsq _)

/-- The scratch tables of a block of images. -/
def tab8 (fr fi : Vec Ideal S208x384 .bf16) (a b : Vec Ideal S384x384 .bf16) (X : Vec Ideal S8x384x384 .bf16) (s : Fin 8) : Table :=
  k0_pay19 (pw fr fi a b (img X s))

theorem tab8_nonneg (fr fi : Vec Ideal S208x384 .bf16) (a b : Vec Ideal S384x384 .bf16) (X : Vec Ideal S8x384x384 .bf16) (s : Fin 8) (i : S13x16x384.Idx) :
    0 ≤ tab8 fr fi a b X s i := by
  have key : ∀ (g : Fin 13) (r : Fin 16) (c : Fin 384), 0 ≤ tab8 fr fi a b X s (ix3 g r c) := fun g r c => by
    unfold tab8
    rw [table_apply]
    exact pw_nonneg fr fi a b _ _
  have hi : i = ix3 (n0 := 13) (n1 := 16) (n2 := 384) (i 0) (i 1) (i 2) := by
    funext k; apply Fin.ext
    match k with
    | ⟨0, _⟩ => rfl
    | ⟨1, _⟩ => rfl
    | ⟨2, _⟩ => rfl
  exact Eq.subst (motive := fun z => 0 ≤ tab8 fr fi a b X s z) hi.symm (key (i 0) (i 1) (i 2))

/-- The value of rank `j` in a table. -/
def ranked (P : Table) (j : ℕ) : EReal := Classical.epsilon fun v => 0 ≤ v ∧ IsNth wt3 (tab (chunks P)) j v

theorem ranked_eq {P : Table} {j : ℕ} {v : EReal} (h0 : 0 ≤ v) (h : IsNth wt3 (tab (chunks P)) j v) : ranked P j = v :=
  (Classical.epsilon_spec (p := fun v => 0 ≤ v ∧ IsNth wt3 (tab (chunks P)) j v) ⟨v, h0, h⟩).2.unique h

/-- The block of outputs of a block of images. -/
def blk (fr fi : Vec Ideal S208x384 .bf16) (a b : Vec Ideal S384x384 .bf16) (X : Vec Ideal S8x384x384 .bf16) : Vec Ideal S8x1x16 .f32 :=
  fun y => Ideal.sqrt (ranked (tab8 fr fi a b X (y 0)) (y 2).val)

/-- The rows of the output buffer below `n` hold `Y`. -/
def Rows {κ : Kind} {sp : Space} (m : Memref sig κ sp S8x1x16 .f32) (Y : Vec Ideal S8x1x16 .f32) (n : ℕ) (f : m.view.ty.Contents (Elt Ideal)) : Prop :=
  ∀ y : S8x1x16.Idx, (y 0).val < n → m.view.read (Elt Ideal) f y = Y y

/-- A row stored is the lanes. -/
theorem pay1_apply (w : FVec Ideal S1x16 .f32) (j : Fin 16) : k0_pay1 w (ix3 (0 : Fin 1) (0 : Fin 1) j) = w (ix2 (0 : Fin 1) j) := by
  unfold k0_pay1
  refine shapeCast_apply (s := S1x16) (t := S1x1x16) w _ (ix3 (0 : Fin 1) (0 : Fin 1) j) (ix2 (0 : Fin 1) j) ?_
  rw [Shape.rowMajor_val_two, Shape.rowMajor_val_three]; rfl

theorem Rows.store {κ : Kind} {sp : Space} {m : Memref sig κ sp S8x1x16 .f32} {Y : Vec Ideal S8x1x16 .f32} {n : ℕ} {f : m.view.ty.Contents (Elt Ideal)}
    (h : Rows m Y n f) (hn : n < 8) (w : FVec Ideal S1x16 .f32) (hw : ∀ j : Fin 16, w (ix2 (0 : Fin 1) j) = Y (ix3 ⟨n, hn⟩ (0 : Fin 1) j)) (h' : _) :
    Rows m Y (n + 1) ((m.access (Rect.unit (s := S8x1x16) ![n, 0, 0] ![1, 1, 16] h')).write (Elt Ideal) f (k0_pay1 w) Finset.univ) := by
  intro y hy
  by_cases hyn : (y 0).val = n
  · have hemb : (Rect.unit (s := S8x1x16) ![n, 0, 0] ![1, 1, 16] h').emb (ix3 (0 : Fin 1) (0 : Fin 1) (y 2)) = y := by
      funext a; apply Fin.ext
      have h1 : (y 1).val = 0 := Nat.lt_one_iff.mp (y 1).isLt
      match a with
      | ⟨0, _⟩ => show n + 1 * 0 = (y 0).val; omega
      | ⟨1, _⟩ => show 0 + 1 * 0 = (y 1).val; omega
      | ⟨2, _⟩ => show 0 + 1 * (y 2).val = (y 2).val; omega
    have hY : ix3 (⟨n, hn⟩ : Fin 8) (0 : Fin 1) (show Fin 16 from y 2) = y := by
      funext a; apply Fin.ext
      have h1 : (y 1).val = 0 := Nat.lt_one_iff.mp (y 1).isLt
      match a with
      | ⟨0, _⟩ => show n = (y 0).val; omega
      | ⟨1, _⟩ => show 0 = (y 1).val; omega
      | ⟨2, _⟩ => rfl
    have hread := View.read_slice_write_emb (Val := Elt Ideal) (v := m.view) (Rect.unit (s := S8x1x16) ![n, 0, 0] ![1, 1, 16] h') f (k0_pay1 w)
      (M := Finset.univ) (x := ix3 (0 : Fin 1) (0 : Fin 1) (y 2)) (Finset.mem_univ _)
    rw [hemb] at hread
    refine (hread.trans ?_).trans ((hw (show Fin 16 from y 2)).trans (congrArg Y hY))
    exact pay1_apply w _
  · have hlt : (y 0).val < n := by omega
    refine (View.read_slice_write_of_not_mem (Val := Elt Ideal) (v := m.view) _ f _ _ ?_).trans (h y hlt)
    intro hm
    rw [Finset.mem_map] at hm
    obtain ⟨x, _, hx⟩ := hm
    have h0 : n + 1 * (x 0).val = (y 0).val := congrArg (fun z : S8x1x16.Idx => (z 0).val) hx
    omega

/-- Eight rows are the whole buffer. -/
theorem Rows.all {κ : Kind} {sp : Space} {m : Memref sig κ sp S8x1x16 .f32} {Y : Vec Ideal S8x1x16 .f32} {f : m.view.ty.Contents (Elt Ideal)}
    (h : Rows m Y 8 f) : m.view.read (Elt Ideal) f = Y := funext fun y => h y (y 0).isLt

/-- A stream's lanes are its row of the block of outputs. -/
theorem row_of_filled {fr fi : Vec Ideal S208x384 .bf16} {a b : Vec Ideal S384x384 .bf16} {X : Vec Ideal S8x384x384 .bf16} {out : Fin 8 → FVec Ideal S1x16 .f32}
    (h : Filled (tab8 fr fi a b X) out) (s : Fin 8) (j : Fin 16) : out s (ix2 (0 : Fin 1) j) = blk fr fi a b X (ix3 s (0 : Fin 1) j) := by
  obtain ⟨v, h0, hv, ho⟩ := h s j
  rw [ho]
  show Ideal.sqrt v = Ideal.sqrt (ranked (tab8 fr fi a b X s) j.val)
  rw [ranked_eq h0 hv]

/-- The streams' states at the loop's start. -/
def begin8 (fr fi : Vec Ideal S208x384 .bf16) (a b : Vec Ideal S384x384 .bf16) (X : Vec Ideal S8x384x384 .bf16) (s : Fin 8) : Str :=
  ⟨msOf (pw fr fi a b (img X s)), k0_pay93, 0#32⟩

theorem begin8_good (fr fi : Vec Ideal S208x384 .bf16) (a b : Vec Ideal S384x384 .bf16) (X : Vec Ideal S8x384x384 .bf16) :
    Good (tab8 fr fi a b X) (begin8 fr fi a b X) := fun s => St.start (pw fr fi a b (img X s)) k0_pay93

end Cert.Proof.K

end
-- ==== Proof.K.Body.lean ====
/-
  One grid step's body: from the block of images and the four tables, the block of outputs. Every stream's start is in
  agreement with its scratch table, the loop's label is called at its specification, and the lanes are stored row by row.
-/
module

public import proofs.«01_k».proof.Proof.K.Blocks

@[expose] public section

set_option maxRecDepth 65536

noncomputable section

namespace Cert.Proof.K

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf kernel pipe)
open Cert.KernelIdeal Cert.KernelIdeal.Gen Cert.Proof.Words Cert.Proof.Extract Cert.Proof.Stream Cert.Proof.Order

local notation "𝕄" => MT nD τ sig Unit (Elt Ideal) ℕ UK ℕ

variable (c : Dev nD)

/-- A call of the loop's label from a region under no bound. -/
theorem call_loop (E : Set ℕ) (i : grid0.Coords) (T : Fin 8 → Table) (hT : ∀ s i, 0 ≤ T s i) (st : Fin 8 → Str) (h : Good T st)
    {k : Ret → Prog (TpuEff nD τ sig (Elt Ideal) (Λ₀ Ideal) .tc) PUnit} {Q : PUnit → sProp 𝕄} :
    spec c T (fun r => wp frame (wpE (defs₀ (F := Ideal)) Variants.nat (c : Thread nD τ) none) E (k r) Q)
      ⊢ wp frame (wpE (defs₀ (F := Ideal)) Variants.nat (c : Thread nD τ) none) E (.op (.call (1 : (Λ₀ Ideal).Label) (callArgs i st)) k) Q :=
  wp_call_spec (ℓ := (1 : (Λ₀ Ideal).Label)) (a := callArgs i st) (k := k) (Q := Q) Variants.nat (c : Thread nD τ) none E (spec c T) (left st)
    (fun u hu => nomatch hu) (spec_le c E i T hT (left st) st h le_rfl)

theorem store_0 (f w : Table) (h' : _) : View.write (Elt Ideal) ((Memref.whole cc0_scratch0).access (Rect.unit (s := S13x16x384) ![0, 0, 0] ![13, 16, 384] h')) f w Finset.univ = w :=
  Memref.write_access_unit_zero_univ (Elt Ideal) cc0_scratch0 (off := ![0, 0, 0]) (by decide) _ f w

theorem store_1 (f w : Table) (h' : _) : View.write (Elt Ideal) ((Memref.whole cc0_scratch1).access (Rect.unit (s := S13x16x384) ![0, 0, 0] ![13, 16, 384] h')) f w Finset.univ = w :=
  Memref.write_access_unit_zero_univ (Elt Ideal) cc0_scratch1 (off := ![0, 0, 0]) (by decide) _ f w

theorem store_2 (f w : Table) (h' : _) : View.write (Elt Ideal) ((Memref.whole cc0_scratch2).access (Rect.unit (s := S13x16x384) ![0, 0, 0] ![13, 16, 384] h')) f w Finset.univ = w :=
  Memref.write_access_unit_zero_univ (Elt Ideal) cc0_scratch2 (off := ![0, 0, 0]) (by decide) _ f w

theorem store_3 (f w : Table) (h' : _) : View.write (Elt Ideal) ((Memref.whole cc0_scratch3).access (Rect.unit (s := S13x16x384) ![0, 0, 0] ![13, 16, 384] h')) f w Finset.univ = w :=
  Memref.write_access_unit_zero_univ (Elt Ideal) cc0_scratch3 (off := ![0, 0, 0]) (by decide) _ f w

theorem store_4 (f w : Table) (h' : _) : View.write (Elt Ideal) ((Memref.whole cc0_scratch4).access (Rect.unit (s := S13x16x384) ![0, 0, 0] ![13, 16, 384] h')) f w Finset.univ = w :=
  Memref.write_access_unit_zero_univ (Elt Ideal) cc0_scratch4 (off := ![0, 0, 0]) (by decide) _ f w

theorem store_5 (f w : Table) (h' : _) : View.write (Elt Ideal) ((Memref.whole cc0_scratch5).access (Rect.unit (s := S13x16x384) ![0, 0, 0] ![13, 16, 384] h')) f w Finset.univ = w :=
  Memref.write_access_unit_zero_univ (Elt Ideal) cc0_scratch5 (off := ![0, 0, 0]) (by decide) _ f w

theorem store_6 (f w : Table) (h' : _) : View.write (Elt Ideal) ((Memref.whole cc0_scratch6).access (Rect.unit (s := S13x16x384) ![0, 0, 0] ![13, 16, 384] h')) f w Finset.univ = w :=
  Memref.write_access_unit_zero_univ (Elt Ideal) cc0_scratch6 (off := ![0, 0, 0]) (by decide) _ f w

theorem store_7 (f w : Table) (h' : _) : View.write (Elt Ideal) ((Memref.whole cc0_scratch7).access (Rect.unit (s := S13x16x384) ![0, 0, 0] ![13, 16, 384] h')) f w Finset.univ = w :=
  Memref.write_access_unit_zero_univ (Elt Ideal) cc0_scratch7 (off := ![0, 0, 0]) (by decide) _ f w

/-- A store through a rectangle, the buffer named by the memref stored to. -/
theorem wp_put (E : Set ℕ) {sh : Shape} {e : EltTy} {m : Memref sig .tc .vmem sh e} {r : Rect sh} {w : r.shape.Idx → Elt Ideal e}
    {hx : (m.access r).Stores Finset.univ} {hm : Finset.univ = Finset.univ ∨ ∀ a, r.stride a = 1}
    {k : PUnit → Prog (TpuEff nD τ sig (Elt Ideal) (Λ₀ Ideal) .tc) PUnit} {f : Buf (Elt Ideal) (m.view.loc (c : Thread nD τ))} {Q : PUnit → sProp 𝕄} :
    (m.view.loc (c : Thread nD τ) ↦[m.view.set]{fullShare} f)
      ⊢ iprop(((m.view.loc (c : Thread nD τ) ↦[m.view.set]{fullShare} ((m.access r).write (Elt Ideal) f w Finset.univ))
          -∗ wp frame (wpE (defs₀ (F := Ideal)) Variants.nat (c : Thread nD τ) none) E (k ⟨⟩) Q)
        -∗ wp frame (wpE (defs₀ (F := Ideal)) Variants.nat (c : Thread nD τ) none) E (.op (.store m r w Finset.univ hx hm) k) Q) :=
  wp_store (hx := hx) (hm := hm) Variants.nat (c : Thread nD τ) none E (Memref.setOn_access_subset _ _ _)

/-- A store to a whole buffer leaves what is stored. -/
theorem wp_fill (E : Set ℕ) {sh : Shape} {e : EltTy} {m : Memref sig .tc .vmem sh e} {r : Rect sh} {w : r.shape.Idx → Elt Ideal e}
    {hx : (m.access r).Stores Finset.univ} {hm : Finset.univ = Finset.univ ∨ ∀ a, r.stride a = 1}
    {k : PUnit → Prog (TpuEff nD τ sig (Elt Ideal) (Λ₀ Ideal) .tc) PUnit} {f : Buf (Elt Ideal) (m.view.loc (c : Thread nD τ))}
    (g : Buf (Elt Ideal) (m.view.loc (c : Thread nD τ))) {Q : PUnit → sProp 𝕄} (hg : (m.access r).write (Elt Ideal) f w Finset.univ = g) :
    (m.view.loc (c : Thread nD τ) ↦{fullShare} f)
      ⊢ iprop(((m.view.loc (c : Thread nD τ) ↦{fullShare} g)
          -∗ wp frame (wpE (defs₀ (F := Ideal)) Variants.nat (c : Thread nD τ) none) E (k ⟨⟩) Q)
        -∗ wp frame (wpE (defs₀ (F := Ideal)) Variants.nat (c : Thread nD τ) none) E (.op (.store m r w Finset.univ hx hm) k) Q) := by
  subst hg
  exact wp_store (hx := hx) (hm := hm) Variants.nat (c : Thread nD τ) none E (Finset.subset_univ _)

/-- The scratch buffers at any contents. -/
def scratch : sProp 𝕄 := iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f))

set_option cleanup.letToHave false in
set_option maxHeartbeats 400000 in
/-- The body's triple. -/
theorem sound_body (E : Set ℕ) (i : grid0.Coords) (m1 : Memref sig .tc .vmem S8x384x384 .bf16) (h1 : m1.IsWhole) (m2 : Memref sig .tc .vmem S208x384 .bf16) (h2 : m2.IsWhole)
    (m3 : Memref sig .tc .vmem S208x384 .bf16) (h3 : m3.IsWhole) (m4 : Memref sig .tc .vmem S384x384 .bf16) (h4 : m4.IsWhole)
    (m5 : Memref sig .tc .vmem S384x384 .bf16) (h5 : m5.IsWhole) (m6 : Memref sig .tc .vmem S8x1x16 .f32) (h6 : m6.IsWhole)
    (X : Vec Ideal S8x384x384 .bf16) (FR FI : Vec Ideal S208x384 .bf16) (A B : Vec Ideal S384x384 .bf16) (K : PUnit → sProp 𝕄) :
    iprop(owns (c : Thread nD τ) m1 fullShare X ∗ owns (c : Thread nD τ) m2 fullShare FR ∗ owns (c : Thread nD τ) m3 fullShare FI ∗ owns (c : Thread nD τ) m4 fullShare A ∗ owns (c : Thread nD τ) m5 fullShare B ∗ (∃ d, owns (c : Thread nD τ) m6 fullShare d) ∗ scratch c
      ∗ ((owns (c : Thread nD τ) m1 fullShare X ∗ owns (c : Thread nD τ) m2 fullShare FR ∗ owns (c : Thread nD τ) m3 fullShare FI ∗ owns (c : Thread nD τ) m4 fullShare A ∗ owns (c : Thread nD τ) m5 fullShare B ∗ owns (c : Thread nD τ) m6 fullShare (blk FR FI A B X) ∗ scratch c) -∗ K ⟨⟩))
      ⊢ wp frame (wpE (defs₀ (F := Ideal)) Variants.nat (c : Thread nD τ) none) E
        (cc0__fft_topk_kernel (F := Ideal) i m1 h1 m2 h2 m3 h3 m4 h4 m5 h5 m6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) K := by
  have hcall := fun {k} {Q} => call_loop c E i (tab8 FR FI A B X) (tab8_nonneg FR FI A B X) (begin8 FR FI A B X) (begin8_good FR FI A B X) (k := k) (Q := Q)
  simp only [cc0__fft_topk_kernel_eq_skeleton]
  unfold cc0__fft_topk_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [Prog.lift, Prog.bind_op, Prog.bind_ret, Prog.pure_eq_ret]
  unfold owns scratch
  iintro ⟨⟨%f1, %hf1, H1⟩, ⟨%f2, %hf2, H2⟩, ⟨%f3, %hf3, H3⟩, ⟨%f4, %hf4, H4⟩, ⟨%f5, %hf5, H5⟩, ⟨%d, %f6, %hf6, H6⟩, ⟨⟨%g0, G0⟩, ⟨%g1, G1⟩, ⟨%g2, G2⟩, ⟨%g3, G3⟩, ⟨%g4, G4⟩, ⟨%g5, G5⟩, ⟨%g6, G6⟩, ⟨%g7, G7⟩⟩, Hk⟩
  iapply (wp_load Variants.nat (c : Thread nD τ) none E (m := m2) (View.setOn_subset_set _ _)) $$ H2; iintro H2
  iapply (wp_load Variants.nat (c : Thread nD τ) none E (m := m3) (View.setOn_subset_set _ _)) $$ H3; iintro H3
  iapply (wp_load Variants.nat (c : Thread nD τ) none E (m := m4) (View.setOn_subset_set _ _)) $$ H4; iintro H4
  iapply (wp_load Variants.nat (c : Thread nD τ) none E (m := m5) (View.setOn_subset_set _ _)) $$ H5; iintro H5
  iapply (wp_load Variants.nat (c : Thread nD τ) none E (m := m1) (View.setOn_subset_set _ _)) $$ H1; iintro H1
  iapply (wp_load Variants.nat (c : Thread nD τ) none E (m := Memref.whole cc0_scratch0) (Finset.subset_univ _)) $$ G0; iintro G0
  iapply (wp_fill c E (m := Memref.whole cc0_scratch0) _ (store_0 g0 _ _)) $$ G0; iintro G0
  iapply (wp_load Variants.nat (c : Thread nD τ) none E (m := m1) (View.setOn_subset_set _ _)) $$ H1; iintro H1
  iapply (wp_load Variants.nat (c : Thread nD τ) none E (m := Memref.whole cc0_scratch1) (Finset.subset_univ _)) $$ G1; iintro G1
  iapply (wp_fill c E (m := Memref.whole cc0_scratch1) _ (store_1 g1 _ _)) $$ G1; iintro G1
  iapply (wp_load Variants.nat (c : Thread nD τ) none E (m := m1) (View.setOn_subset_set _ _)) $$ H1; iintro H1
  iapply (wp_load Variants.nat (c : Thread nD τ) none E (m := Memref.whole cc0_scratch2) (Finset.subset_univ _)) $$ G2; iintro G2
  iapply (wp_fill c E (m := Memref.whole cc0_scratch2) _ (store_2 g2 _ _)) $$ G2; iintro G2
  iapply (wp_load Variants.nat (c : Thread nD τ) none E (m := m1) (View.setOn_subset_set _ _)) $$ H1; iintro H1
  iapply (wp_load Variants.nat (c : Thread nD τ) none E (m := Memref.whole cc0_scratch3) (Finset.subset_univ _)) $$ G3; iintro G3
  iapply (wp_fill c E (m := Memref.whole cc0_scratch3) _ (store_3 g3 _ _)) $$ G3; iintro G3
  iapply (wp_load Variants.nat (c : Thread nD τ) none E (m := m1) (View.setOn_subset_set _ _)) $$ H1; iintro H1
  iapply (wp_load Variants.nat (c : Thread nD τ) none E (m := Memref.whole cc0_scratch4) (Finset.subset_univ _)) $$ G4; iintro G4
  iapply (wp_fill c E (m := Memref.whole cc0_scratch4) _ (store_4 g4 _ _)) $$ G4; iintro G4
  iapply (wp_load Variants.nat (c : Thread nD τ) none E (m := m1) (View.setOn_subset_set _ _)) $$ H1; iintro H1
  iapply (wp_load Variants.nat (c : Thread nD τ) none E (m := Memref.whole cc0_scratch5) (Finset.subset_univ _)) $$ G5; iintro G5
  iapply (wp_fill c E (m := Memref.whole cc0_scratch5) _ (store_5 g5 _ _)) $$ G5; iintro G5
  iapply (wp_load Variants.nat (c : Thread nD τ) none E (m := m1) (View.setOn_subset_set _ _)) $$ H1; iintro H1
  iapply (wp_load Variants.nat (c : Thread nD τ) none E (m := Memref.whole cc0_scratch6) (Finset.subset_univ _)) $$ G6; iintro G6
  iapply (wp_fill c E (m := Memref.whole cc0_scratch6) _ (store_6 g6 _ _)) $$ G6; iintro G6
  iapply (wp_load Variants.nat (c : Thread nD τ) none E (m := m1) (View.setOn_subset_set _ _)) $$ H1; iintro H1
  iapply (wp_load Variants.nat (c : Thread nD τ) none E (m := Memref.whole cc0_scratch7) (Finset.subset_univ _)) $$ G7; iintro G7
  iapply (wp_fill c E (m := Memref.whole cc0_scratch7) _ (store_7 g7 _ _)) $$ G7; iintro G7
  simp only [load_img m1 f1 0 (by decide), load_img m1 f1 1 (by decide), load_img m1 f1 2 (by decide), load_img m1 f1 3 (by decide), load_img m1 f1 4 (by decide), load_img m1 f1 5 (by decide), load_img m1 f1 6 (by decide), load_img m1 f1 7 (by decide), load_two m2 f2, load_two m3 f3, load_two m4 f4, load_two m5 f5, hf1, hf2, hf3, hf4, hf5,
    start_ms_zero, start_ms_one, start_ms_two, start_ms_three, start_ms_four, start_ms_five, start_ms_six, start_ms_seven, start_tab_one, start_tab_two, start_tab_three, start_tab_four, start_tab_five, start_tab_six, start_tab_seven]
  iapply hcall
  rw [spec_apply]
  isplitl [G0 G1 G2 G3 G4 G5 G6 G7]
  · unfold tables
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  iintro %r %hr HT
  have hrow := row_of_filled hr
  obtain ⟨r0, r1, r2, r3, r4, r5, r6, r7, r8, r9, r10, r11, r12, r13, r14, r15, r16⟩ := r
  dsimp only
  iapply (wp_load Variants.nat (c : Thread nD τ) none E (m := m6) (View.setOn_subset_set _ _)) $$ H6; iintro H6
  iapply (wp_put c E (m := m6)) $$ H6; iintro H6
  iapply (wp_load Variants.nat (c : Thread nD τ) none E (m := m6) (View.setOn_subset_set _ _)) $$ H6; iintro H6
  iapply (wp_put c E (m := m6)) $$ H6; iintro H6
  iapply (wp_load Variants.nat (c : Thread nD τ) none E (m := m6) (View.setOn_subset_set _ _)) $$ H6; iintro H6
  iapply (wp_put c E (m := m6)) $$ H6; iintro H6
  iapply (wp_load Variants.nat (c : Thread nD τ) none E (m := m6) (View.setOn_subset_set _ _)) $$ H6; iintro H6
  iapply (wp_put c E (m := m6)) $$ H6; iintro H6
  iapply (wp_load Variants.nat (c : Thread nD τ) none E (m := m6) (View.setOn_subset_set _ _)) $$ H6; iintro H6
  iapply (wp_put c E (m := m6)) $$ H6; iintro H6
  iapply (wp_load Variants.nat (c : Thread nD τ) none E (m := m6) (View.setOn_subset_set _ _)) $$ H6; iintro H6
  iapply (wp_put c E (m := m6)) $$ H6; iintro H6
  iapply (wp_load Variants.nat (c : Thread nD τ) none E (m := m6) (View.setOn_subset_set _ _)) $$ H6; iintro H6
  iapply (wp_put c E (m := m6)) $$ H6; iintro H6
  iapply (wp_load Variants.nat (c : Thread nD τ) none E (m := m6) (View.setOn_subset_set _ _)) $$ H6; iintro H6
  iapply (wp_put c E (m := m6)) $$ H6; iintro H6
  rw [wp_ret]; imodintro
  have R0 : Rows m6 (blk FR FI A B X) 0 f6 := fun y hy => absurd hy (Nat.not_lt_zero _)
  have R1 := R0.store (by decide) r8 (fun j => hrow 0 j) inb_S8x1x16_S1x1x16_0_0_0
  have R2 := R1.store (by decide) r9 (fun j => hrow 1 j) inb_S8x1x16_S1x1x16_1_0_0
  have R3 := R2.store (by decide) r10 (fun j => hrow 2 j) inb_S8x1x16_S1x1x16_2_0_0
  have R4 := R3.store (by decide) r11 (fun j => hrow 3 j) inb_S8x1x16_S1x1x16_3_0_0
  have R5 := R4.store (by decide) r12 (fun j => hrow 4 j) inb_S8x1x16_S1x1x16_4_0_0
  have R6 := R5.store (by decide) r13 (fun j => hrow 5 j) inb_S8x1x16_S1x1x16_5_0_0
  have R7 := R6.store (by decide) r14 (fun j => hrow 6 j) inb_S8x1x16_S1x1x16_6_0_0
  have R8 := R7.store (by decide) r15 (fun j => hrow 7 j) inb_S8x1x16_S1x1x16_7_0_0
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; · iexact H6
    ipureintro; exact R8.all
  unfold tables
  icases HT with ⟨G0, G1, G2, G3, G4, G5, G6, G7⟩
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  iexists _; iexact G7

end Cert.Proof.K

end
-- ==== Proof.K.Launch.lean ====
/-
  The kernel's run: the host lines, the pipelined region whose body's triple is `sound_body`, the trailing reshape.
-/
module

public import proofs.«01_k».proof.Proof.K.Body
public import Idealize.ShloMosaic.Lib.Pipeline.ValueKit

@[expose] public section

set_option maxRecDepth 65536

noncomputable section

namespace Cert.Proof.K

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf kernel pipe)
open Cert.KernelIdeal Cert.KernelIdeal.Gen Cert.Proof.Words Cert.Proof.Extract Cert.Proof.Stream Cert.Proof.Order

local notation "𝕄" => MT nD τ sig Unit (Elt Ideal) ℕ UK ℕ

variable (m : (ℓ : Loc nD τ sig) → Buf (Elt Ideal) ℓ) (ρ : Dev nD → PrngReg)

/-- What the region finds: the memory after the host lines before it. -/
abbrev V0 (c : Dev nD) : Valuation τ sig (Elt Ideal) := StableHlo.after (List.flatten [hostOps0]) (fun b => m (c, b))
/-- … at a buffer of the core. -/
abbrev V (c : Dev nD) (b : Ref sig .tc) : Buf (Elt Ideal) ((c : Thread nD τ).loc b) := V0 m c (Proc.devRef .tc b)

theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor

/-- Window `w`'s block at point `t`, of the array as the region finds it. -/
def iblk (c : Dev nD) (w : Fin (cfg0 (F := Ideal)).W) (t : Fin (cfg0 (F := Ideal)).N) :
    (((cfg0 (F := Ideal)).win w).xblock ((cfg0 (F := Ideal)).grid.coords t)).Idx → Elt Ideal ((cfg0 (F := Ideal)).win w).elt :=
  (((cfg0 (F := Ideal)).win w).blk t).view.read (Elt Ideal) (V m c (Pipeline.arrRef spec0 w))

/-- The block of outputs at point `t`. -/
def outBlk (c : Dev nD) (t : Fin (cfg0 (F := Ideal)).N) : Vec Ideal S8x1x16 .f32 :=
  blk (iblk m c 1 t) (iblk m c 2 t) (iblk m c 3 t) (iblk m c 4 t) (iblk m c 0 t)

/-- The region's data: an input's staging buffer holds its block, the output's the block of outputs. -/
def dats (_ : Fin 1) (c : Dev nD) : Dat τ (Elt Ideal) Unit ℕ UK ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

theorem A_eq (c : Dev nD) (w : Fin (cfg0 (F := Ideal)).W) : (dats m 0 c).A w = V m c (Pipeline.arrRef spec0 w) := by
  dsimp only [dats]

theorem after_in (c : Dev nD) (t : Fin (cfg0 (F := Ideal)).N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = outBlk m c t :=
  ⟨rfl, rfl, rfl, rfl, rfl, rfl⟩

/-! The body finds each input's block in its staging buffer. -/

theorem before_0 (c : Dev nD) (t : Fin (cfg0 (F := Ideal)).N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin (cfg0 (F := Ideal)).N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin (cfg0 (F := Ideal)).N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin (cfg0 (F := Ideal)).N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin (cfg0 (F := Ideal)).N) (d) : (dats m 0 c).before 4 t d = iblk m c 4 t :=
  ((dats m 0 c).before_in_eq_fetched 4 rfl (fun _ => rfl) (fun _ _ _ => rfl) (fun _ => rfl) t d).trans rfl

/-- What the body is called with at a point, and what it returns. -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin (cfg0 (F := Ideal)).N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t))

theorem step_sound (c : Dev nD) (t : Fin (cfg0 (F := Ideal)).N) :
    bodyPre m c t ⊢ wp frame (wpE (defs₀ (F := Ideal)) Variants.nat (c : Thread nD τ) none) Set.univ (bodyAt0 (F := Ideal) t) (fun _ => bodyPost m c t) := by
  unfold bodyPre bodyPost bodyAt0
  obtain ⟨a0, a1, a2, a3, a4, a5⟩ := after_in m c t
  simp only [before_0, before_1, before_2, before_3, before_4]
  rw [show (dats m 0 c).Φ t.succ = (dats m 0 c).Φ t.castSucc from rfl, show (dats m 0 c).owesAt () t.succ = (dats m 0 c).owesAt () t.castSucc from rfl,
    a0, a1, a2, a3, a4, a5, show (dats m 0 c).Φ t.castSucc = Pipeline.ΦA spec0 c from rfl]
  unfold Pipeline.ΦA
  rw [scopedRest0_eq]
  iintro ⟨⟨Hs, Hg⟩, Ho, ⟨%d0, H0⟩, ⟨%d1, H1⟩, ⟨%d2, H2⟩, ⟨%d3, H3⟩, ⟨%d4, H4⟩, ⟨%d5, H5⟩⟩
  iapply (sound_body c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  unfold scratch
  isplitl [Hs]; · iexact Hs
  iintro ⟨H0, H1, H2, H3, H4, H5, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs_row (t : Fin (cfg0 (F := Ideal)).N) :
    defs₀ (F := Ideal) .tc (cfg0 (F := Ideal)).body ((cfg0 (F := Ideal)).bodyArgs t ((cfg0 (F := Ideal)).slots t)) = bodyAt0 (F := Ideal) t := by
  unfold defs₀; rw [Defs.onTc_tc]

/-- The region's obligation at every point. -/
theorem obligation (c : Dev nD) : BodyObligation (dats m 0 c) (defs₀ (F := Ideal)) Variants.nat () Set.univ := fun t => by
  rw [bigSep_W0, bigSep_W0, defs_row]
  exact triple_restated (step_sound m c t) rfl .rfl fun _ => .rfl

/-! ## The run -/

theorem hmain : Pipeline.HMainK (Ix := Unit) (Name := ℕ) (U := UK) (Lvl := ℕ) cfgs 0 defs₀ Variants.nat m (main (F := Ideal)) (V m)
    (fun _ => Pipeline.chain ([hostOps1].map StableHlo.seq)) :=
  Pipeline.hmain_around cfgs 0 defs₀ Variants.nat m main [hostOps0] [hostOps1] (by simp only [List.Forall]; exact hostOps0_sub)
    (by simp only [List.Forall]; exact hostOps0_fresh) main_chain

theorem sfx_sub : ∀ ops ∈ ([hostOps1] : List (List (HloOp τ sig (Elt Ideal)))), ∀ op ∈ ops, op.bufs ⊆ Pipeline.tailRefs sig Pipeline.Prefetch.none spec0 := by
  rw [Pipeline.tailRefs_none spec0 (launch0 (F := Ideal)).win.arr_unscoped]
  intro ops hops op hop
  rw [List.mem_singleton] at hops; subst hops
  exact Pipeline.sub_ucRefs op ((List.forall_iff_forall_mem.mp hostOps1_sub) op hop)

theorem sfx_fresh : ∀ ops ∈ ([hostOps1] : List (List (HloOp τ sig (Elt Ideal)))), ∀ op ∈ ops, op.fresh = ∅ := by
  intro ops hops op hop
  rw [List.mem_singleton] at hops; subst hops
  exact (List.forall_iff_forall_mem.mp hostOps1_fresh) op hop

theorem sfx_keeps : ∀ ops ∈ ([hostOps1] : List (List (HloOp τ sig (Elt Ideal)))), ∀ op ∈ ops, ∀ w, Proc.devRef .tc (Pipeline.arrRef spec0 w) ∉ op.writes := by
  intro ops hops op hop
  rw [List.mem_singleton] at hops; subst hops
  rw [List.mem_singleton] at hop; subst hop
  intro w
  rw [show (StableHlo.reshape main_v34 main_v35 (rfl : (.f32 : EltTy) = .f32) shapeCasts_S384x1x16_S4x96x16 : HloOp τ sig (Elt Ideal)).writes
    = {Proc.devRef .tc main_v35} from rfl, Finset.mem_singleton]
  fin_cases w <;> exact StableHlo.devRef_ne_of_ne (by decide)

/-- The argument is what it was when the region is entered. -/
theorem V_arg (c : Dev nD) : V m c main_arg0 = m ((c : Thread nD τ).loc main_arg0) :=
  StableHlo.after_of_forall_not_mem _ _ (List.forall_iff_forall_mem.mp (by
    simp only [List.flatten_cons, List.flatten_nil, List.append_nil, hostOps0, List.Forall]
    repeat' apply And.intro
    all_goals exact fun hm => StableHlo.devRef_ne_of_ne (by decide) (Finset.mem_singleton.mp hm)))

set_option backward.isDefEq.respectTransparency.types false in
set_option maxHeartbeats 1000000 in
/-- The kernel's run, with what it leaves in the result and the argument. -/
theorem run (Q : (c : Dev nD) → Buf (Elt Ideal) ((c : Thread nD τ).loc main_v35))
    (hQ : ∀ c, Pipeline.afterTail₀ cfgs (dats m) 0 (V0 m) [hostOps1] c main_v35 = Q c)
    (hA : ∀ c, Pipeline.afterTail₀ cfgs (dats m) 0 (V0 m) [hostOps1] c main_arg0 = m ((c : Thread nD τ).loc main_arg0)) :
    θ_run (Cert.KernelIdeal.defs (F := Ideal)) (onTc (τ := τ) (main (F := Ideal))) ⟨m, fun _ => 0, ρ⟩ (fun r => (∀ c : Dev nD,
      r.2.mem ((c : Thread nD τ).loc main_v35) = Q c ∧ r.2.mem ((c : Thread nD τ).loc main_arg0) = m ((c : Thread nD τ).loc main_arg0)) ∧ r.2.sem = fun _ => 0) :=
  Pipeline.θ_run_frame_around cfgs (dats m) (0 : Fin 1) launch0 defs₀ Variants.nat m ρ main
    (hbody := fun c => (obligation m c).loose) (hshare := fun c w => by fin_cases w <;> rfl)
    (howed := fun _ _ => rfl) (V₀ := V0 m) (opss := [hostOps1]) (hsub := sfx_sub) (hfresh := sfx_fresh) (hkeep := sfx_keeps)
    (hmain := hmain m) (hA := A_eq m) (hΦ := fun _ _ => rfl)
    (Q' := fun r => (∀ c : Dev nD, r.2.mem ((c : Thread nD τ).loc main_v35) = Q c
      ∧ r.2.mem ((c : Thread nD τ).loc main_arg0) = m ((c : Thread nD τ).loc main_arg0)) ∧ r.2.sem = fun _ => 0)
    (hQ' := fun r h => ⟨fun c => ⟨((h.1 c).2 main_v35 (by decide)).trans (hQ c), ((h.1 c).2 main_arg0 (by decide)).trans (hA c)⟩, h.2⟩)

/-! ## What the run leaves -/

theorem tail_arg (c : Dev nD) : Pipeline.afterTail₀ cfgs (dats m) 0 (V0 m) [hostOps1] c main_arg0 = m ((c : Thread nD τ).loc main_arg0) := by
  unfold Pipeline.afterTail₀
  refine (StableHlo.after_of_forall_not_mem _ _ (List.forall_iff_forall_mem.mp ?_)).trans
    ((Pipeline.withArrays_of_ne spec0 c (V0 m c) _ main_arg0 (by decide)).trans (V_arg m c))
  simp only [List.flatten_cons, List.flatten_nil, List.append_nil, hostOps1, List.Forall]
  exact fun hm => StableHlo.devRef_ne_of_ne (by decide) (Finset.mem_singleton.mp hm)

/-- The result is the output array, its leading axis split. -/
theorem tail_out (c : Dev nD) : Pipeline.afterTail₀ cfgs (dats m) 0 (V0 m) [hostOps1] c main_v35
    = shapeCast S4x96x16 ((dats m 0 c).arrAt 5 (cfg0 (F := Ideal)).N : S384x1x16.Idx → EReal) shapeCasts_S384x1x16_S4x96x16 := by
  unfold Pipeline.afterTail₀
  have hw := Pipeline.withArrays_arr spec0 (launch0 (F := Ideal)).win.arr_inj c (V0 m c) (fun w => (dats m 0 c).arrAt w (cfg0 (F := Ideal)).N) 5
  have h1 : StableHlo.after (List.flatten [hostOps1]) (Pipeline.withArrays spec0 c (V0 m c) fun w => (dats m 0 c).arrAt w (cfg0 (F := Ideal)).N) (Proc.devRef .tc main_v35)
      = shapeCast S4x96x16 (Pipeline.withArrays spec0 c (V0 m c) (fun w => (dats m 0 c).arrAt w (cfg0 (F := Ideal)).N) (Proc.devRef .tc main_v34) : S384x1x16.Idx → EReal) shapeCasts_S384x1x16_S4x96x16 := by
    simp only [List.flatten_cons, List.flatten_nil, List.append_nil, hostOps1]
    after_results; rfl
  refine h1.trans ?_
  exact congrArg (fun X : S384x1x16.Idx → EReal => shapeCast S4x96x16 X shapeCasts_S384x1x16_S4x96x16) hw

/-- Image `n` of the array of images. -/
def imgOf (x : S384x384x384.Idx → EReal) (n : Fin 384) : Vec Ideal S1x384x384 .bf16 := fun i => x (ValueIdx.ix3 n (i 1) (i 2))

/-- The table of powers of image `n`. -/
def tabOf (FR FI : Vec Ideal S208x384 .bf16) (A B : Vec Ideal S384x384 .bf16) (x : S384x384x384.Idx → EReal) (n : Fin 384) : Table :=
  k0_pay19 (pw FR FI A B (imgOf x n))

/-- The output array. -/
def outOf (FR FI : Vec Ideal S208x384 .bf16) (A B : Vec Ideal S384x384 .bf16) (x : S384x384x384.Idx → EReal) : S384x1x16.Idx → EReal :=
  fun y => Ideal.sqrt (ranked (tabOf FR FI A B x (y 0)) (y 2).val)

/-- The windows' block indices. -/
theorem idx : ∀ t : Fin (cfg0 (F := Ideal)).N, win0_0.index t = ![t.val, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

theorem iblk_1 (c : Dev nD) (t : Fin (cfg0 (F := Ideal)).N) : iblk m c 1 t = V m c main_v30 := by
  blk_ext! [iblk, V, idx t]
theorem iblk_2 (c : Dev nD) (t : Fin (cfg0 (F := Ideal)).N) : iblk m c 2 t = V m c main_v31 := by
  blk_ext! [iblk, V, idx t]
theorem iblk_3 (c : Dev nD) (t : Fin (cfg0 (F := Ideal)).N) : iblk m c 3 t = V m c main_v32 := by
  blk_ext! [iblk, V, idx t]
theorem iblk_4 (c : Dev nD) (t : Fin (cfg0 (F := Ideal)).N) : iblk m c 4 t = V m c main_v33 := by
  blk_ext! [iblk, V, idx t]

theorem at8_lt (t : Fin (cfg0 (F := Ideal)).N) (s : Fin 8) : 8 * t.val + s.val < 384 := by
  have h : t.val < 48 := lt_of_lt_of_eq t.isLt N_0
  have := s.isLt
  omega

/-- Image `s` of point `t`'s block is image `8 t + s`. -/
theorem iblk_0 (c : Dev nD) (t : Fin (cfg0 (F := Ideal)).N) (s : Fin 8) :
    img (iblk m c 0 t) s = imgOf (V m c main_v1) ⟨8 * t.val + s.val, at8_lt t s⟩ := by
  funext i
  unfold img imgOf iblk
  refine congrArg (V m c main_v1) (funext fun a => Fin.ext ?_)
  match a with
  | ⟨0, _⟩ => blk_simp [idx t]; show t.val * 8 + s.val = 8 * t.val + s.val; omega
  | ⟨1, _⟩ => blk_simp [idx t]; first | done | (show 0 * 384 + (i 1).val = (i 1).val; omega)
  | ⟨2, _⟩ => blk_simp [idx t]; first | done | (show 0 * 384 + (i 2).val = (i 2).val; omega)

/-- One row of a point's block is a row of the output array. -/
theorem out_row (c : Dev nD) (t : Fin (cfg0 (F := Ideal)).N) (s : Fin 8) (n : Fin 384) (hn : n.val = 8 * t.val + s.val) (j : ℕ) :
    Ideal.sqrt (ranked (tab8 (iblk m c 1 t) (iblk m c 2 t) (iblk m c 3 t) (iblk m c 4 t) (iblk m c 0 t) s) j)
      = Ideal.sqrt (ranked (tabOf (V m c main_v30) (V m c main_v31) (V m c main_v32) (V m c main_v33) (V m c main_v1) n) j) := by
  obtain rfl : n = ⟨8 * t.val + s.val, at8_lt t s⟩ := Fin.ext hn
  unfold tab8 tabOf
  rw [iblk_1, iblk_2, iblk_3, iblk_4, iblk_0]

theorem arr_out (c : Dev nD) : ((dats m 0 c).arrAt 5 (cfg0 (F := Ideal)).N : S384x1x16.Idx → EReal)
    = outOf (V m c main_v30) (V m c main_v31) (V m c main_v32) (V m c main_v33) (V m c main_v1) := by
  refine (dats m 0 c).arrAt_eq_of_covers 5 _ (by decide +kernel) fun t hf y => ?_
  blk_simp
  have h0 : ((win0_5.blk t).view.emb y 0).val = 8 * t.val + (y 0).val := by
    blk_simp [idx t]
    show t.val * 8 + (y 0).val = _
    omega
  have h2 : ((win0_5.blk t).view.emb y 2).val = (y 2).val := by
    blk_simp [idx t]
    first | done | (show 0 * 16 + (y 2).val = _; omega)
  rw [(after_in m c t).2.2.2.2.2]
  unfold outBlk blk outOf
  rw [h2]
  exact out_row m c t _ _ h0 _

end Cert.Proof.K

end
-- ==== Proof.K.Frames.lean ====
/- The two programs end, and leave their argument as it was. -/
module

public import proofs.«01_k».proof.Defs
public import proofs.«01_k».proof.Proof.K.Launch
public import proofs.«01_k».proof.Proof.Gen.ReferenceIdeal.Run
public import proofs.«01_k».proof.Proof.Gen.ReferenceIdeal
public import Idealize.ShloMosaic.Lib.Claim
public import Idealize.ShloMosaic.Lib.Quiescent

@[expose] public section

noncomputable section

namespace Cert.Proof.K

open Idealize.ShloMosaic Idealize.SL.Sem Cert.KernelIdeal

theorem frame_kernel : Cert.quiescent_KernelIdeal := by
  intro m g _
  exact θ_run_mono (run m g _ (fun _ => rfl) (tail_arg m)) fun r h => ⟨fun c => (h.1 c).2, h.2⟩

theorem frame_reference : Cert.quiescent_ReferenceIdeal := by
  intro m g _
  exact θ_run_mono (Cert.ReferenceIdeal.Value.run m g) fun r h =>
    ⟨fun c => (h c).2, sem_eq_zero_of_no_sems (by decide) r.2⟩

end Cert.Proof.K

end
-- ==== Proof.K.Power.lean ====
/-
  The power at one frequency: the image summed against one row of cosines and sines per axis, real and imaginary part
  squared and added.  Over the extended reals the order of the two sums does not matter and neither does the sign of
  the sines: with a finite image it is an identity of real sums, and with an infinite entry every order gives `⊤`.
-/
module

public import Idealize.ShloMosaic.PureOps.Ideal
public import Mathlib.Tactic.Ring
public import Mathlib.Tactic.NormNum
public import Mathlib.Data.EReal.Inv

@[expose] public section

noncomputable section

namespace Cert.Proof.Power

open scoped BigOperators

/-- An extended real that is a real. -/
def Fin' (x : EReal) : Prop := ∃ r : ℝ, x = r

theorem fin_add {a b : EReal} : Fin' (a + b) ↔ Fin' a ∧ Fin' b := by
  constructor
  · rintro ⟨r, h⟩
    induction a using EReal.rec <;> induction b using EReal.rec
    all_goals first
      | exact ⟨⟨_, rfl⟩, ⟨_, rfl⟩⟩
      | (exfalso; simp at h)
  · rintro ⟨⟨a, rfl⟩, ⟨b, rfl⟩⟩
    exact ⟨a + b, by norm_cast⟩

theorem fin_neg {a : EReal} : Fin' (-a) ↔ Fin' a := by
  constructor
  · rintro ⟨r, h⟩; exact ⟨-r, by rw [EReal.coe_neg, ← h, neg_neg]⟩
  · rintro ⟨r, rfl⟩; exact ⟨-r, by norm_cast⟩

theorem fin_sub {a b : EReal} : Fin' (a - b) ↔ Fin' a ∧ Fin' b := by
  rw [sub_eq_add_neg, fin_add, fin_neg]

theorem fin_sum {ι : Type*} (s : Finset ι) (f : ι → EReal) : Fin' (∑ i ∈ s, f i) ↔ ∀ i ∈ s, Fin' (f i) := by
  classical
  induction s using Finset.induction_on with
  | empty => simp only [Finset.sum_empty, Finset.notMem_empty, false_imp_iff, implies_true, iff_true]; exact ⟨0, rfl⟩
  | insert a s ha ih => rw [Finset.sum_insert ha, fin_add, ih]; simp

theorem not_fin_coe_mul {c : ℝ} (hc : c ≠ 0) {x : EReal} (hx : ¬ Fin' x) : ¬ Fin' ((c : EReal) * x) := by
  rintro ⟨r, h⟩
  apply hx
  induction x using EReal.rec with
  | coe y => exact ⟨y, rfl⟩
  | bot =>
    rcases lt_or_gt_of_ne hc with hc | hc
    · rw [EReal.coe_mul_bot_of_neg hc] at h; simp at h
    · rw [EReal.coe_mul_bot_of_pos hc] at h; simp at h
  | top =>
    rcases lt_or_gt_of_ne hc with hc | hc
    · rw [EReal.coe_mul_top_of_neg hc] at h; simp at h
    · rw [EReal.coe_mul_top_of_pos hc] at h; simp at h

theorem sq_of_not_fin {x : EReal} (hx : ¬ Fin' x) : x * x = ⊤ := by
  induction x using EReal.rec with
  | coe y => exact absurd ⟨y, rfl⟩ hx
  | bot => exact EReal.bot_mul_bot
  | top => exact EReal.top_mul_top

theorem sq_nonneg' (x : EReal) : 0 ≤ x * x := by
  by_cases hx : Fin' x
  · obtain ⟨r, rfl⟩ := hx
    exact_mod_cast mul_self_nonneg r
  · rw [sq_of_not_fin hx]; exact le_top

variable {n : ℕ}

/-- The real part. -/
def re (c1 s1 c2 s2 : Fin n → ℝ) (x : Fin n → Fin n → EReal) : EReal :=
  ∑ w, (∑ h, (c1 h : EReal) * x h w) * (c2 w : EReal) - ∑ w, (∑ h, (s1 h : EReal) * x h w) * (s2 w : EReal)
/-- The imaginary part. -/
def im (c1 s1 c2 s2 : Fin n → ℝ) (x : Fin n → Fin n → EReal) : EReal :=
  ∑ w, (∑ h, (c1 h : EReal) * x h w) * (s2 w : EReal) + ∑ w, (∑ h, (s1 h : EReal) * x h w) * (c2 w : EReal)
/-- The power. -/
def power (c1 s1 c2 s2 : Fin n → ℝ) (x : Fin n → Fin n → EReal) : EReal :=
  re c1 s1 c2 s2 x * re c1 s1 c2 s2 x + im c1 s1 c2 s2 x * im c1 s1 c2 s2 x

theorem power_nonneg (c1 s1 c2 s2 : Fin n → ℝ) (x : Fin n → Fin n → EReal) : 0 ≤ power c1 s1 c2 s2 x :=
  add_nonneg (sq_nonneg' _) (sq_nonneg' _)

/-- Rows of zeros have power zero. -/
theorem power_zero (c2 s2 : Fin n → ℝ) (x : Fin n → Fin n → EReal) : power (fun _ => 0) (fun _ => 0) c2 s2 x = 0 := by
  have h : ∀ c : Fin n → ℝ, ∑ w, (∑ h, ((0 : ℝ) : EReal) * x h w) * (c w : EReal) = 0 := by
    intro c
    refine Finset.sum_eq_zero fun w _ => ?_
    rw [Finset.sum_eq_zero fun h _ => by rw [EReal.coe_zero, zero_mul], zero_mul]
  unfold power re im
  rw [h c2, h s2]
  simp

/-- No place where cosine and sine are both zero. -/
def Live (c s : Fin n → ℝ) : Prop := ∀ i, c i ≠ 0 ∨ s i ≠ 0

theorem not_fin_row {c : Fin n → ℝ} {x : Fin n → Fin n → EReal} {h w : Fin n} (hx : ¬ Fin' (x h w)) (hc : c h ≠ 0) :
    ¬ Fin' (∑ h, (c h : EReal) * x h w) := fun hf =>
  not_fin_coe_mul hc hx ((fin_sum _ _).1 hf h (Finset.mem_univ h))

theorem not_fin_col {c : Fin n → ℝ} {b : Fin n → EReal} {w : Fin n} (hb : ¬ Fin' (b w)) (hc : c w ≠ 0) :
    ¬ Fin' (∑ w, b w * (c w : EReal)) := fun hf => by
  have := (fin_sum _ _).1 hf w (Finset.mem_univ w)
  rw [mul_comm] at this
  exact not_fin_coe_mul hc hb this

/-- An image with an infinite entry has infinite power. -/
theorem power_top {c1 s1 c2 s2 : Fin n → ℝ} (h1 : Live c1 s1) (h2 : Live c2 s2) {x : Fin n → Fin n → EReal} {h w : Fin n}
    (hx : ¬ Fin' (x h w)) : power c1 s1 c2 s2 x = ⊤ := by
  have key : ¬ Fin' (re c1 s1 c2 s2 x) ∨ ¬ Fin' (im c1 s1 c2 s2 x) := by
    unfold re im
    rw [fin_sub, fin_add]
    rcases h1 h with hc | hs
    · have hb := not_fin_row (c := c1) hx hc
      rcases h2 w with hc2 | hs2
      · exact Or.inl fun hf => not_fin_col (c := c2) hb hc2 hf.1
      · exact Or.inr fun hf => not_fin_col (c := s2) hb hs2 hf.1
    · have hb := not_fin_row (c := s1) hx hs
      rcases h2 w with hc2 | hs2
      · exact Or.inr fun hf => not_fin_col (c := c2) hb hc2 hf.2
      · exact Or.inl fun hf => not_fin_col (c := s2) hb hs2 hf.2
  unfold power
  rcases key with hk | hk
  · rw [sq_of_not_fin hk]
    exact EReal.top_add_of_ne_bot (ne_of_gt (lt_of_lt_of_le (EReal.bot_lt_coe 0) (sq_nonneg' _)))
  · rw [sq_of_not_fin hk]
    exact EReal.add_top_of_ne_bot (ne_of_gt (lt_of_lt_of_le (EReal.bot_lt_coe 0) (sq_nonneg' _)))

/-- The double sum over reals. -/
def dbl (a b : Fin n → ℝ) (X : Fin n → Fin n → ℝ) : ℝ := ∑ w, (∑ h, a h * X h w) * b w

theorem dbl_swap (a b : Fin n → ℝ) (X : Fin n → Fin n → ℝ) : dbl b a (fun h w => X w h) = dbl a b X := by
  unfold dbl
  simp only [Finset.sum_mul]
  rw [Finset.sum_comm]
  exact Finset.sum_congr rfl fun w _ => Finset.sum_congr rfl fun h _ => by ring

theorem dbl_neg_left (a b : Fin n → ℝ) (X : Fin n → Fin n → ℝ) : dbl (fun i => -a i) b X = -dbl a b X := by
  unfold dbl
  simp only [neg_mul, Finset.sum_neg_distrib]

theorem dbl_neg_right (a b : Fin n → ℝ) (X : Fin n → Fin n → ℝ) : dbl a (fun i => -b i) X = -dbl a b X := by
  unfold dbl
  simp only [mul_neg, Finset.sum_neg_distrib]

theorem coe_sum (f : Fin n → ℝ) : ((∑ i, f i : ℝ) : EReal) = ∑ i, (f i : EReal) := by
  exact map_sum (⟨⟨fun r : ℝ => (r : EReal), EReal.coe_zero⟩, EReal.coe_add⟩ : ℝ →+ EReal) f Finset.univ

theorem coe_dbl (a b : Fin n → ℝ) (X : Fin n → Fin n → ℝ) :
    ∑ w, (∑ h, (a h : EReal) * (X h w : EReal)) * (b w : EReal) = (dbl a b X : ℝ) := by
  unfold dbl
  rw [coe_sum]
  refine Finset.sum_congr rfl fun w _ => ?_
  rw [EReal.coe_mul, coe_sum]
  refine congrArg (· * (b w : EReal)) (Finset.sum_congr rfl fun h _ => ?_)
  rw [EReal.coe_mul]

theorem power_coe (c1 s1 c2 s2 : Fin n → ℝ) (X : Fin n → Fin n → ℝ) :
    power c1 s1 c2 s2 (fun h w => (X h w : EReal))
      = (((dbl c1 c2 X - dbl s1 s2 X) * (dbl c1 c2 X - dbl s1 s2 X) + (dbl c1 s2 X + dbl s1 c2 X) * (dbl c1 s2 X + dbl s1 c2 X) : ℝ) : EReal) := by
  unfold power re im
  simp only [coe_dbl]
  norm_cast

theorem image_cases (x : Fin n → Fin n → EReal) : (∃ X : Fin n → Fin n → ℝ, x = fun h w => (X h w : EReal)) ∨ ∃ h w, ¬ Fin' (x h w) := by
  by_cases hx : ∃ h w, ¬ Fin' (x h w)
  · exact Or.inr hx
  · push Not at hx
    exact Or.inl ⟨fun h w => (hx h w).choose, funext fun h => funext fun w => (hx h w).choose_spec⟩

/-- The other axis first. -/
theorem power_swap {c1 s1 c2 s2 : Fin n → ℝ} (h1 : Live c1 s1) (h2 : Live c2 s2) (x : Fin n → Fin n → EReal) :
    power c2 s2 c1 s1 (fun h w => x w h) = power c1 s1 c2 s2 x := by
  rcases image_cases x with ⟨X, rfl⟩ | ⟨h, w, hx⟩
  · rw [power_coe, power_coe c1 s1 c2 s2 X]
    simp only [dbl_swap]
    rw [add_comm (dbl s1 c2 X)]
  · rw [power_top h1 h2 hx]
    exact power_top (x := fun h w => x w h) h2 h1 (h := w) (w := h) hx

/-- The opposite frequency. -/
theorem power_neg {c1 s1 c2 s2 : Fin n → ℝ} (h1 : Live c1 s1) (h2 : Live c2 s2) (x : Fin n → Fin n → EReal) :
    power c1 (fun i => -s1 i) c2 (fun i => -s2 i) x = power c1 s1 c2 s2 x := by
  rcases image_cases x with ⟨X, rfl⟩ | ⟨h, w, hx⟩
  · rw [power_coe, power_coe]
    simp only [dbl_neg_left, dbl_neg_right]
    congr 1
    ring
  · rw [power_top h1 h2 hx]
    exact power_top (fun i => (h1 i).imp id neg_ne_zero.mpr) (fun i => (h2 i).imp id neg_ne_zero.mpr) hx

end Cert.Proof.Power

end
-- ==== Proof.K.Count.lean ====
/-
  Counting on half a spectrum.  The rows 0 to 192 of a spectrum with the symmetry `(k, l) ↔ (-k, -l)`, the rows 1 to 191
  counted twice, count what all 384 rows count.  So the `j`-th largest entry of the whole spectrum is the `j`-th
  largest of the weighted half.
-/
module

public import proofs.«01_k».proof.Proof.K.Order
public import proofs.«01_k».proof.Proof.K.Extract
public import Idealize.ShloMosaic.Lib.SortFacts
public import Mathlib.Logic.Equiv.Fin.Basic
public import Mathlib.Algebra.BigOperators.Fin
public import Mathlib.Algebra.BigOperators.Intervals
public import Mathlib.Order.Interval.Finset.Fin

@[expose] public section

noncomputable section

namespace Cert.Proof.Count

open Cert.Proof.Order Cert.Proof.Extract Idealize.ShloMosaic
open scoped BigOperators

/-- The opposite frequency. -/
def neg (k : Fin 384) : Fin 384 := ⟨(384 - k.val) % 384, Nat.mod_lt _ (by norm_num)⟩

theorem neg_neg' (k : Fin 384) : neg (neg k) = k := by
  apply Fin.ext
  have := k.isLt
  show (384 - (384 - k.val) % 384) % 384 = k.val
  omega

/-- Taking the opposite, as a permutation. -/
def negE : Fin 384 ≃ Fin 384 := ⟨neg, neg, neg_neg', neg_neg'⟩

/-- A row's weight. -/
def roww (r : ℕ) : ℕ := if r = 0 ∨ r = 192 then 1 else 2

theorem sum_half (N : ℕ → ℕ) (hN : ∀ i, i < 191 → N (193 + i) = N (191 - i)) :
    ∑ k ∈ Finset.range 384, N k = ∑ r ∈ Finset.range 208, if r ≤ 192 then roww r * N r else 0 := by
  have h1 : ∑ k ∈ Finset.range 384, N k = ∑ k ∈ Finset.range 193, N k + ∑ i ∈ Finset.range 191, N (193 + i) :=
    Finset.sum_range_add N 193 191
  have h2 : ∑ i ∈ Finset.range 191, N (193 + i) = ∑ i ∈ Finset.range 191, N (i + 1) := by
    rw [← Finset.sum_range_reflect (fun i => N (i + 1)) 191]
    refine Finset.sum_congr rfl fun i hi => ?_
    have hi' := Finset.mem_range.1 hi
    rw [hN i hi']
    exact congrArg N (by omega)
  have h3 : ∑ r ∈ Finset.range 208, (if r ≤ 192 then roww r * N r else 0)
      = ∑ r ∈ Finset.range 193, (if r ≤ 192 then roww r * N r else 0) + ∑ i ∈ Finset.range 15, (if 193 + i ≤ 192 then roww (193 + i) * N (193 + i) else 0) :=
    Finset.sum_range_add _ 193 15
  have h4 : ∑ i ∈ Finset.range 15, (if 193 + i ≤ 192 then roww (193 + i) * N (193 + i) else 0) = 0 :=
    Finset.sum_eq_zero fun i _ => if_neg (by omega)
  have h5 : ∑ i ∈ Finset.range 191, (if i + 1 ≤ 192 then roww (i + 1) * N (i + 1) else 0) = 2 * ∑ i ∈ Finset.range 191, N (i + 1) := by
    rw [Finset.mul_sum]
    refine Finset.sum_congr rfl fun i hi => ?_
    have hi' := Finset.mem_range.1 hi
    rw [if_pos (by omega), roww, if_neg (by omega)]
  rw [h3, h4, h1, h2, Finset.sum_range_succ _ 192, Finset.sum_range_succ' _ 191, Finset.sum_range_succ (fun r => if r ≤ 192 then roww r * N r else 0) 192,
    Finset.sum_range_succ' (fun r => if r ≤ 192 then roww r * N r else 0) 191, h5]
  simp [roww]
  ring

/-- The rows by chunk and row of the chunk. -/
theorem sum_chunks (f : ℕ → ℕ) : ∑ g : Fin 13, ∑ r : Fin 16, f (16 * g.val + r.val) = ∑ r ∈ Finset.range 208, f r := by
  rw [← Fin.sum_univ_eq_sum_range f 208, ← Fintype.sum_prod_type' (f := fun (g : Fin 13) (r : Fin 16) => f (16 * g.val + r.val))]
  exact Fintype.sum_equiv (finProdFinEquiv (m := 13) (n := 16)) _ _ fun x => congrArg f (by
    show 16 * x.1.val + x.2.val = x.2.val + 16 * x.1.val
    omega)

variable (F : Fin 384 → Fin 384 → EReal) (P : Fin 13 → Fin 16 → Fin 384 → EReal)

/-- The table holds the rows 0 to 192 of the spectrum, then zeros. -/
def Half : Prop := ∀ g r c, P g r c = if h : 16 * g.val + r.val ≤ 192 then F ⟨16 * g.val + r.val, by omega⟩ c else 0

/-- The spectrum's symmetry. -/
def Sym : Prop := ∀ k l, F (neg k) (neg l) = F k l

variable {F P}

/-- The count in one row. -/
def rowN (F : Fin 384 → Fin 384 → EReal) (u : EReal → Prop) [DecidablePred u] (r : ℕ) : ℕ :=
  if h : r < 384 then ∑ l : Fin 384, (if u (F ⟨r, h⟩ l) then 1 else 0) else 0

theorem rowN_mirror (hF : Sym F) (u : EReal → Prop) [DecidablePred u] (i : ℕ) (hi : i < 191) : rowN F u (193 + i) = rowN F u (191 - i) := by
  unfold rowN
  rw [dif_pos (by omega), dif_pos (by omega), ← Equiv.sum_comp negE]
  refine Finset.sum_congr rfl fun l _ => ?_
  have e : (⟨193 + i, by omega⟩ : Fin 384) = neg ⟨191 - i, by omega⟩ := Fin.ext (by
    show 193 + i = (384 - (191 - i)) % 384
    omega)
  have e2 : F ⟨193 + i, by omega⟩ (negE l) = F ⟨191 - i, by omega⟩ l := (congrArg (fun k => F k (neg l)) e).trans (hF _ _)
  rw [e2]

/-- One chunk row's weighted count. -/
theorem row_count (hP : Half F P) (u : EReal → Prop) [DecidablePred u] (hu : ¬ u 0) (g : Fin 13) (r : Fin 16) :
    (if 16 * g.val + r.val ≤ 192 then roww (16 * g.val + r.val) * rowN F u (16 * g.val + r.val) else 0)
      = ∑ c : Fin 384, if u (P g r c) then wt g r else 0 := by
  have hw : roww (16 * g.val + r.val) = wt g r := by
    unfold roww wt
    have := g.isLt
    have := r.isLt
    exact if_congr (by omega) rfl rfl
  by_cases h : 16 * g.val + r.val ≤ 192
  · rw [if_pos h, hw, rowN, dif_pos (by omega), Finset.mul_sum]
    refine Finset.sum_congr rfl fun c _ => ?_
    rw [hP g r c, dif_pos h, mul_ite, mul_one, mul_zero]
  · rw [if_neg h]
    refine (Finset.sum_eq_zero fun c _ => ?_).symm
    rw [hP g r c, dif_neg h, if_neg hu]

theorem count (hF : Sym F) (hP : Half F P) (u : EReal → Prop) [DecidablePred u] (hu : ¬ u 0) :
    ∑ k : Fin 384, ∑ l : Fin 384, (if u (F k l) then 1 else 0) = ∑ i : Fin 13 × Fin 16 × Fin 384, if u (tab P i) then wt3 i else 0 := by
  have hl : ∑ k : Fin 384, ∑ l : Fin 384, (if u (F k l) then 1 else 0) = ∑ k ∈ Finset.range 384, rowN F u k := by
    rw [← Fin.sum_univ_eq_sum_range (rowN F u) 384]
    refine Finset.sum_congr rfl fun k _ => ?_
    rw [rowN, dif_pos k.isLt]
  have hr : ∑ i : Fin 13 × Fin 16 × Fin 384, (if u (tab P i) then wt3 i else 0)
      = ∑ g : Fin 13, ∑ r : Fin 16, ∑ c : Fin 384, if u (P g r c) then wt g r else 0 :=
    (Fintype.sum_prod_type _).trans (Finset.sum_congr rfl fun g _ => Fintype.sum_prod_type _)
  rw [hl, hr, sum_half _ (rowN_mirror hF u),
    ← sum_chunks (fun r => if r ≤ 192 then roww r * rowN F u r else 0)]
  exact Finset.sum_congr rfl fun g _ => Finset.sum_congr rfl fun r _ => row_count hP u hu g r

/-- All weights together. -/
theorem total : ∑ i : Fin 13 × Fin 16 × Fin 384, wt3 i ≥ 16 := by
  calc ∑ i : Fin 13 × Fin 16 × Fin 384, wt3 i ≥ ∑ _i : Fin 13 × Fin 16 × Fin 384, 1 := Finset.sum_le_sum fun i _ => wt_pos _ _
    _ ≥ 16 := by simp

/-- The `j`-th largest of the whole spectrum is the `j`-th largest of the weighted half. -/
theorem isNth_half (hF : Sym F) (hP : Half F P) (hn : ∀ k l, 0 ≤ F k l) {j : ℕ} (hj : j < 16) {v : EReal} (hv : 0 ≤ v)
    (h : IsNth (fun _ => 1) (fun i : Fin 384 × Fin 384 => F i.1 i.2) j v) : IsNth wt3 (tab P) j v := by
  unfold IsNth at *
  have hl : ∀ (u : EReal → Prop) [DecidablePred u], ∑ i : Fin 384 × Fin 384, (if u (F i.1 i.2) then 1 else 0)
      = ∑ k : Fin 384, ∑ l : Fin 384, (if u (F k l) then 1 else 0) := fun u _ => Fintype.sum_prod_type _
  have ha : above wt3 (tab P) v = above (fun _ => 1) (fun i : Fin 384 × Fin 384 => F i.1 i.2) v :=
    ((hl (fun x => v < x)).trans (count hF hP (fun x => v < x) (not_lt.2 hv))).symm
  refine ⟨ha.le.trans h.1, ?_⟩
  rcases hv.eq_or_lt with rfl | hv'
  · have hz : ∀ i, (0 : EReal) ≤ tab P i := by
      intro i
      show 0 ≤ P i.1 i.2.1 i.2.2
      rw [hP]
      split
      · exact hn _ _
      · exact le_rfl
    have : atLeast wt3 (tab P) 0 = ∑ i : Fin 13 × Fin 16 × Fin 384, wt3 i := Finset.sum_congr rfl fun i _ => if_pos (hz i)
    rw [this]
    exact lt_of_lt_of_le hj total
  · have hb : atLeast wt3 (tab P) v = atLeast (fun _ => 1) (fun i : Fin 384 × Fin 384 => F i.1 i.2) v :=
      ((hl (fun x => v ≤ x)).trans (count hF hP (fun x => v ≤ x) (not_le.2 hv'))).symm
    rw [hb]
    exact h.2

/-- A stable sort, greatest first, puts the `j`-th largest at position `j`. -/
theorem sorted_isNth {n : ℕ} (f : Fin n → EReal) (j : Fin n) (R : Fin n → Fin n → Bool) (hR : ∀ a b, R a b = true ↔ f b < f a) :
    IsNth (fun _ => 1) f j.val (f (sortedFrom R j)) := by
  have hRf : ∀ a b, R a b = false ↔ f a ≤ f b := fun a b => by
    rw [← Bool.not_eq_true, hR, not_lt]
  have hmono : ∀ i k : Fin n, i < k → f (sortedFrom R k) ≤ f (sortedFrom R i) := fun i k hik =>
    (hRf _ _).1 (sortedFrom_noInversion R R (fun a b h => (hRf _ _).2 ((hR _ _).1 h).le) (fun _ _ h => h)
      (fun a b c h h' => (hRf _ _).2 (((hRf _ _).1 h).trans ((hRf _ _).1 h'))) i k hik)
  have hbij : Function.Bijective (sortedFrom R) := ⟨sortedFrom_injective R, sortedFrom_surjective R⟩
  unfold IsNth above atLeast
  rw [← hbij.sum_comp (fun i => if f (sortedFrom R j) < f i then 1 else 0), ← hbij.sum_comp (fun i => if f (sortedFrom R j) ≤ f i then 1 else 0)]
  constructor
  · calc ∑ i, (if f (sortedFrom R j) < f (sortedFrom R i) then 1 else 0) ≤ ∑ i : Fin n, (if i < j then 1 else 0) := by
          refine Finset.sum_le_sum fun i _ => ?_
          by_cases h : i < j
          · rw [if_pos h]; split <;> omega
          · rw [if_neg h, if_neg]
            rcases (not_lt.1 h).eq_or_lt with rfl | hlt
            · exact lt_irrefl _
            · exact not_lt.2 (hmono _ _ hlt)
      _ = j.val := by rw [Finset.sum_boole, Finset.filter_gt_eq_Iio]; simp
  · calc j.val < j.val + 1 := Nat.lt_succ_self _
      _ = ∑ i : Fin n, (if i ≤ j then 1 else 0) := by rw [Finset.sum_boole, Finset.filter_ge_eq_Iic]; simp
      _ ≤ _ := by
          refine Finset.sum_le_sum fun i _ => ?_
          by_cases h : i ≤ j
          · rw [if_pos h, if_pos]
            rcases h.eq_or_lt with rfl | hlt
            · exact le_rfl
            · exact hmono _ _ hlt
          · rw [if_neg h]; exact Nat.zero_le _

end Cert.Proof.Count

end
-- ==== Proof.K.Twiddle.lean ====
/-
  The twiddle factors as real numbers, and that both programs' host lines compute them: the reference from the product
  of the two positions, the kernel from that product's remainder by 384 and with the sign inside the angle.
-/
module

public import proofs.«01_k».proof.Proof.K.Power
public import proofs.«01_k».proof.Proof.K.Count
public import Idealize.ShloMosaic.Lib.IdealHost
public import Mathlib.Analysis.SpecialFunctions.Trigonometric.Inverse

@[expose] public section

noncomputable section

namespace Cert.Proof.Twiddle

open Cert.Proof.Power Cert.Proof.Count Idealize.ShloMosaic

/-- The cosine factor of a product of positions. -/
def C (z : ℤ) : ℝ := Real.cos (2 * Real.pi * z / 384) / Real.sqrt 384
/-- The sine factor. -/
def S (z : ℤ) : ℝ := -Real.sin (2 * Real.pi * z / 384) / Real.sqrt 384

theorem root_pos : 0 < Real.sqrt 384 := Real.sqrt_pos.2 (by norm_num)

theorem C_add (z m : ℤ) : C (z + 384 * m) = C z := by
  unfold C
  have : 2 * Real.pi * ((z + 384 * m : ℤ) : ℝ) / 384 = 2 * Real.pi * z / 384 + m * (2 * Real.pi) := by push_cast; ring
  rw [this, Real.cos_add_int_mul_two_pi]

theorem S_add (z m : ℤ) : S (z + 384 * m) = S z := by
  unfold S
  have : 2 * Real.pi * ((z + 384 * m : ℤ) : ℝ) / 384 = 2 * Real.pi * z / 384 + m * (2 * Real.pi) := by push_cast; ring
  rw [this, Real.sin_add_int_mul_two_pi]

theorem C_mod (z : ℤ) : C (z % 384) = C z := by
  have := C_add (z % 384) (z / 384)
  rw [Int.emod_add_mul_ediv] at this
  exact this.symm
theorem S_mod (z : ℤ) : S (z % 384) = S z := by
  have := S_add (z % 384) (z / 384)
  rw [Int.emod_add_mul_ediv] at this
  exact this.symm

theorem C_neg (z : ℤ) : C (-z) = C z := by
  unfold C
  rw [← Real.cos_neg (2 * Real.pi * z / 384)]
  congr 2; push_cast; ring
theorem S_neg (z : ℤ) : S (-z) = -S z := by
  unfold S
  have : 2 * Real.pi * ((-z : ℤ) : ℝ) / 384 = -(2 * Real.pi * z / 384) := by push_cast; ring
  rw [this, Real.sin_neg]; ring

theorem live (z : ℤ) : C z ≠ 0 ∨ S z ≠ 0 := by
  by_contra h
  push Not at h
  have hr := root_pos.ne'
  have hc : Real.cos (2 * Real.pi * z / 384) = 0 := by
    rcases div_eq_zero_iff.1 h.1 with h | h
    · exact h
    · exact absurd h hr
  have hs : Real.sin (2 * Real.pi * z / 384) = 0 := by
    rcases div_eq_zero_iff.1 h.2 with h | h
    · exact neg_eq_zero.1 h
    · exact absurd h hr
  have := Real.sin_sq_add_cos_sq (2 * Real.pi * z / 384)
  rw [hc, hs] at this
  norm_num at this

/-- The cosines of one frequency. -/
def cs (k : Fin 384) (j : Fin 384) : ℝ := C ((k.val : ℤ) * (j.val : ℤ))
/-- The sines of one frequency. -/
def sn (k : Fin 384) (j : Fin 384) : ℝ := S ((k.val : ℤ) * (j.val : ℤ))

theorem live_row (k : Fin 384) : Live (cs k) (sn k) := fun j => live _

theorem cs_comm (k j : Fin 384) : cs k j = cs j k := congrArg C (mul_comm _ _)
theorem sn_comm (k j : Fin 384) : sn k j = sn j k := congrArg S (mul_comm _ _)

theorem neg_val (k j : Fin 384) : ∃ m : ℤ, (((Count.neg k).val : ℤ) * (j.val : ℤ)) = -((k.val : ℤ) * (j.val : ℤ)) + 384 * m := by
  have hk := k.isLt
  by_cases h0 : k.val = 0
  · refine ⟨0, ?_⟩
    have : (Count.neg k).val = 0 := by show (384 - k.val) % 384 = 0; omega
    rw [this, h0]; simp
  · refine ⟨j.val, ?_⟩
    have : (Count.neg k).val = 384 - k.val := by show (384 - k.val) % 384 = _; omega
    rw [this, Nat.cast_sub hk.le]; push_cast; ring

theorem cs_neg (k : Fin 384) : cs (Count.neg k) = cs k := funext fun j => by
  obtain ⟨m, hm⟩ := neg_val k j
  unfold cs
  rw [hm, C_add, C_neg]
theorem sn_neg (k : Fin 384) : sn (Count.neg k) = fun j => -sn k j := funext fun j => by
  obtain ⟨m, hm⟩ := neg_val k j
  unfold sn
  rw [hm, S_add, S_neg]

/-- The power spectrum of an image. -/
def spec (x : Fin 384 → Fin 384 → EReal) (k l : Fin 384) : EReal := power (cs k) (sn k) (cs l) (sn l) x

theorem spec_nonneg (x : Fin 384 → Fin 384 → EReal) (k l : Fin 384) : 0 ≤ spec x k l := power_nonneg _ _ _ _ _

theorem spec_sym (x : Fin 384 → Fin 384 → EReal) : Sym (spec x) := fun k l => by
  unfold spec
  rw [cs_neg, cs_neg, sn_neg, sn_neg]
  exact power_neg (live_row k) (live_row l) x

/-! The host lines. -/

theorem lit_neg_one : Ideal.ofBits .f32 0xBF800000#32 = ((-1 : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul, -EReal.coe_neg]; norm_num
theorem lit_neg_two : Ideal.ofBits .f32 0xC0000000#32 = ((-2 : ℝ) : EReal) := by
  simp [Ideal.ofBits, Ideal.ieee, -EReal.coe_mul, -EReal.coe_neg]; norm_num
theorem lit_size : Ideal.ofBits .f32 0x43C00000#32 = ((384 : ℝ) : EReal) := by
  simp [Ideal.ofBits, Ideal.ieee, -EReal.coe_mul, -EReal.coe_neg]; norm_num

theorem acos_lit : Ideal.acos (Ideal.ofBits .f32 0xBF800000#32) = ((Real.pi : ℝ) : EReal) := by
  rw [lit_neg_one, Ideal.acos_coe, if_pos (by norm_num), Real.arccos_neg_one]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem root_lit : Ideal.sqrt (Ideal.ofBits .f32 0x43C00000#32) = ((Real.sqrt 384 : ℝ) : EReal) := by
  rw [lit_size, Ideal.sqrt_coe, if_neg (by norm_num)]

/-- An angle, from its literals. -/
theorem angle (u : BitVec 32) (r : ℝ) (hu : Ideal.ofBits .f32 u = (r : EReal)) (z : ℝ) :
    Ideal.div (Ideal.ofBits .f32 u * Ideal.acos (Ideal.ofBits .f32 0xBF800000#32) * (z : EReal)) (Ideal.ofBits .f32 0x43C00000#32)
      = ((r * Real.pi * z / 384 : ℝ) : EReal) := by
  rw [hu, acos_lit, lit_size, ← EReal.coe_mul, ← EReal.coe_mul, div_real _ _ (by norm_num)]

/-- The reference's cosine. -/
theorem ref_cos (z : ℤ) : Ideal.div (Ideal.cos (Ideal.div (Ideal.ofBits .f32 0x40000000#32 * Ideal.acos (Ideal.ofBits .f32 0xBF800000#32) * ((z : ℝ) : EReal)) (Ideal.ofBits .f32 0x43C00000#32)))
    (Ideal.sqrt (Ideal.ofBits .f32 0x43C00000#32)) = (C z : EReal) := by
  rw [angle _ 2 lit_two, root_lit, Ideal.cos_coe, div_real _ _ root_pos.ne']
  rfl
/-- The reference's sine. -/
theorem ref_sin (z : ℤ) : Ideal.div (-(Ideal.sin (Ideal.div (Ideal.ofBits .f32 0x40000000#32 * Ideal.acos (Ideal.ofBits .f32 0xBF800000#32) * ((z : ℝ) : EReal)) (Ideal.ofBits .f32 0x43C00000#32))))
    (Ideal.sqrt (Ideal.ofBits .f32 0x43C00000#32)) = (S z : EReal) := by
  rw [angle _ 2 lit_two, root_lit, Ideal.sin_coe, ← EReal.coe_neg, div_real _ _ root_pos.ne']
  rfl
/-- The kernel's cosine. -/
theorem ker_cos (z : ℤ) : Ideal.div (Ideal.cos (Ideal.div (Ideal.ofBits .f32 0xC0000000#32 * Ideal.acos (Ideal.ofBits .f32 0xBF800000#32) * ((z : ℝ) : EReal)) (Ideal.ofBits .f32 0x43C00000#32)))
    (Ideal.sqrt (Ideal.ofBits .f32 0x43C00000#32)) = (C z : EReal) := by
  rw [angle _ (-2) lit_neg_two, root_lit, Ideal.cos_coe, div_real _ _ root_pos.ne']
  unfold C
  rw [← Real.cos_neg (2 * Real.pi * z / 384)]
  congr 3; ring
/-- The kernel's sine. -/
theorem ker_sin (z : ℤ) : Ideal.div (Ideal.sin (Ideal.div (Ideal.ofBits .f32 0xC0000000#32 * Ideal.acos (Ideal.ofBits .f32 0xBF800000#32) * ((z : ℝ) : EReal)) (Ideal.ofBits .f32 0x43C00000#32)))
    (Ideal.sqrt (Ideal.ofBits .f32 0x43C00000#32)) = (S z : EReal) := by
  rw [angle _ (-2) lit_neg_two, root_lit, Ideal.sin_coe, div_real _ _ root_pos.ne']
  unfold S
  rw [← Real.sin_neg (2 * Real.pi * z / 384)]
  congr 3; ring

/-- The product of two positions as a word. -/
theorem word_mul (a b : Fin 384) : (BitVec.ofNat 32 a.val * BitVec.ofNat 32 b.val).toInt = (a.val : ℤ) * (b.val : ℤ) := by
  have ha := a.isLt
  have hb := b.isLt
  have hab : a.val * b.val < 2 ^ 31 := lt_of_le_of_lt (Nat.mul_le_mul ha.le hb.le) (by norm_num)
  rw [← BitVec.ofNat_mul, BitVec.toInt_eq_toNat_of_lt (by rw [BitVec.toNat_ofNat, Nat.mod_eq_of_lt (by omega)]; omega),
    BitVec.toNat_ofNat, Nat.mod_eq_of_lt (by omega)]
  push_cast; rfl

/-- Its remainder by 384. -/
theorem word_rem (a b : Fin 384) : ((BitVec.ofNat 32 a.val * BitVec.ofNat 32 b.val).srem 384#32).toInt = ((a.val : ℤ) * (b.val : ℤ)) % 384 := by
  rw [BitVec.toInt_srem, word_mul]
  exact Int.tmod_eq_emod_of_nonneg (by positivity)

end Cert.Proof.Twiddle

end
-- ==== Proof.K.PwValue.lean ====
/-
  The table of powers read at one cell: the power of the image at the frequencies of the cell's row and column.
-/
module

public import proofs.«01_k».proof.Proof.K.Blocks
public import proofs.«01_k».proof.Proof.K.Twiddle
public import Idealize.ShloMosaic.Lib.MatmulPlain

@[expose] public section

noncomputable section

namespace Cert.Proof.K

open Idealize.ShloMosaic Idealize.ShloMosaic.TcCoe
open Cert.KernelIdeal Cert.KernelIdeal.Gen Cert.Proof.Power Cert.Proof.Stream

/-- A product of the kernel's, entry by entry. -/
theorem mm_apply (lhs : FVec Ideal S208x384 .bf16) (rhs : FVec Ideal S384x384 .bf16) (r : Fin 208) (c : Fin 384) :
    matmul dot_S208x384_S384x384_S208x384_1_0_0_1_n_n none lhs rhs (constant S208x384 .f32 0x00000000#32) (ValueIdx.ix2 r c)
      = ∑ k : Fin 384, lhs (ValueIdx.ix2 r k) * rhs (ValueIdx.ix2 k c) := by
  refine (Ideal.matmul_plain_apply (M := 208) (K := 384) (N := 384) none lhs rhs (constant S208x384 .f32 0x00000000#32) r c).trans ?_
  have h0 : constant (F := Ideal) S208x384 .f32 0x00000000#32 (ValueIdx.ix2 r c) = 0 := Ideal.ofBits_zero_f32
  rw [h0, zero_add]

/-- The block of one image as a matrix. -/
theorem img_cast (b : Vec Ideal S1x384x384 .bf16) (h w : Fin 384) :
    shapeCast S384x384 b shapeCasts_S1x384x384_S384x384 (ValueIdx.ix2 h w) = b (ValueIdx.ix3 (0 : Fin 1) h w) := by
  refine shapeCast_apply _ _ _ _ ?_
  rw [Shape.rowMajor_val_two, Shape.rowMajor_val_three]
  show (0 * 384 + h.val) * 384 + w.val = h.val * 384 + w.val
  omega

theorem pw_apply (fr fi : Vec Ideal S208x384 .bf16) (a b : Vec Ideal S384x384 .bf16) (v : Vec Ideal S1x384x384 .bf16)
    (r : Fin 208) (l : Fin 384) (c1 s1 c2 s2 : Fin 384 → ℝ) (x : Fin 384 → Fin 384 → EReal)
    (hfr : ∀ h, fr (ValueIdx.ix2 r h) = (c1 h : EReal)) (hfi : ∀ h, fi (ValueIdx.ix2 r h) = (s1 h : EReal))
    (ha : ∀ w, a (ValueIdx.ix2 w l) = (c2 w : EReal)) (hb : ∀ w, b (ValueIdx.ix2 w l) = (s2 w : EReal))
    (hv : ∀ h w, v (ValueIdx.ix3 (0 : Fin 1) h w) = x h w) :
    pw fr fi a b v (ValueIdx.ix2 r l) = power c1 s1 c2 s2 x := by
  set X := shapeCast S384x384 v shapeCasts_S1x384x384_S384x384 with hX
  have hb1 : ∀ w, matmul (F := Ideal) dot_S208x384_S384x384_S208x384_1_0_0_1_n_n none fr X (constant S208x384 .f32 0x00000000#32) (ValueIdx.ix2 r w)
      = ∑ h, (c1 h : EReal) * x h w := fun w => (mm_apply fr X r w).trans (Finset.sum_congr rfl fun h _ => by rw [hfr, hX, img_cast, hv])
  have hb2 : ∀ w, matmul (F := Ideal) dot_S208x384_S384x384_S208x384_1_0_0_1_n_n none fi X (constant S208x384 .f32 0x00000000#32) (ValueIdx.ix2 r w)
      = ∑ h, (s1 h : EReal) * x h w := fun w => (mm_apply fi X r w).trans (Finset.sum_congr rfl fun h _ => by rw [hfi, hX, img_cast, hv])
  have e : ∀ (L : FVec Ideal S208x384 .bf16) (R : FVec Ideal S384x384 .bf16) (f : Fin 384 → EReal) (g : Fin 384 → ℝ),
      (∀ w, L (ValueIdx.ix2 r w) = f w) → (∀ w, R (ValueIdx.ix2 w l) = (g w : EReal)) →
      matmul dot_S208x384_S384x384_S208x384_1_0_0_1_n_n none L R (constant S208x384 .f32 0x00000000#32) (ValueIdx.ix2 r l) = ∑ w, f w * (g w : EReal) :=
    fun L R f g hL hR => (mm_apply L R r l).trans (Finset.sum_congr rfl fun w _ => by rw [hL, hR])
  have e1 := e _ a _ c2 hb1 ha
  have e2 := e _ b _ s2 hb2 hb
  have e3 := e _ b _ s2 hb1 hb
  have e4 := e _ a _ c2 hb2 ha
  unfold power re im
  rw [← e1, ← e2, ← e3, ← e4]
  unfold pw k0_pay12 k0_pay8 k0_pay9 k0_pay10 k0_pay11
  simp only [shapeCast_self]
  rfl

end Cert.Proof.K

end
-- ==== Proof.K.Tables.lean ====
/-
  The kernel's operands at the region's entry: the images, and the four tables of twiddle factors.
-/
module

public import proofs.«01_k».proof.Proof.K.Launch
public import proofs.«01_k».proof.Proof.K.PwValue

@[expose] public section

noncomputable section

namespace Cert.Proof.K

open Idealize.ShloMosaic Idealize.ShloMosaic.TcCoe Idealize.SL.Sem
open Cert.KernelIdeal Cert.KernelIdeal.Gen Cert.Proof.Power Cert.Proof.Stream Cert.Proof.Twiddle

variable (m : (ℓ : Loc nD τ sig) → Buf (Elt Idealize.ShloMosaic.Ideal) ℓ)

theorem V0_eq (c : Dev nD) : V0 m c = StableHlo.after hostOps0 (fun b => m (c, b)) := by
  unfold V0
  simp only [List.flatten_cons, List.flatten_nil, List.append_nil]

/-- The remainder's word as a real. -/
theorem word_real (k j : Fin 384) : FloatOps.sitofp (F := Idealize.ShloMosaic.Ideal) FTy.f32
    (IntOp.remsi ArithUnit.host (IntOp.muli (BitVec.ofNat 32 k.val) (BitVec.ofNat 32 j.val)) 384#32)
      = ((((k.val : ℤ) * (j.val : ℤ) % 384 : ℤ) : ℝ) : EReal) := by
  rw [IntOp.remsi_of_pos _ (by decide)]
  show ((((BitVec.ofNat 32 k.val * BitVec.ofNat 32 j.val).srem 384#32).toInt : ℝ) : EReal) = _
  rw [word_rem]

theorem row_cos (k j : Fin 384) : Ideal.div (Ideal.cos (Ideal.div (Ideal.ofBits FTy.f32 3221225472#32 * Ideal.acos (Ideal.ofBits FTy.f32 3212836864#32) *
    FloatOps.sitofp (F := Idealize.ShloMosaic.Ideal) FTy.f32 (IntOp.remsi ArithUnit.host (IntOp.muli (BitVec.ofNat 32 k.val) (BitVec.ofNat 32 j.val)) 384#32))
    (Ideal.ofBits FTy.f32 1136656384#32))) (Ideal.sqrt (Ideal.ofBits FTy.f32 1136656384#32)) = (cs k j : EReal) := by
  rw [word_real, ker_cos, C_mod]
  rfl
theorem row_sin (k j : Fin 384) : Ideal.div (Ideal.sin (Ideal.div (Ideal.ofBits FTy.f32 3221225472#32 * Ideal.acos (Ideal.ofBits FTy.f32 3212836864#32) *
    FloatOps.sitofp (F := Idealize.ShloMosaic.Ideal) FTy.f32 (IntOp.remsi ArithUnit.host (IntOp.muli (BitVec.ofNat 32 k.val) (BitVec.ofNat 32 j.val)) 384#32))
    (Ideal.ofBits FTy.f32 1136656384#32))) (Ideal.sqrt (Ideal.ofBits FTy.f32 1136656384#32)) = (sn k j : EReal) := by
  rw [word_real, ker_sin, S_mod]
  rfl

/-- The square table of cosines. -/
theorem V_cos (c : Dev nD) (k j : Fin 384) : (V m c main_v32 : S384x384.Idx → EReal) (ValueIdx.ix2 k j) = (cs k j : EReal) := by
  show (V0 m c (Proc.devRef .tc _)) _ = _
  rw [V0_eq]
  after_results
  pointwise
  exact row_cos k j

/-- The square table of sines. -/
theorem V_sin (c : Dev nD) (k j : Fin 384) : (V m c main_v33 : S384x384.Idx → EReal) (ValueIdx.ix2 k j) = (sn k j : EReal) := by
  show (V0 m c (Proc.devRef .tc _)) _ = _
  rw [V0_eq]
  after_results
  pointwise
  exact row_sin k j

/-- The half table of cosines: 193 rows, then zeros. -/
theorem V_cos_half (c : Dev nD) (k : Fin 208) (j : Fin 384) : (V m c main_v30 : S208x384.Idx → EReal) (ValueIdx.ix2 k j)
    = if h : k.val < 193 then (cs ⟨k.val, by omega⟩ j : EReal) else 0 := by
  show (V0 m c (Proc.devRef .tc _)) _ = _
  rw [V0_eq]
  after_results
  pointwise
  by_cases h : k.val < 193
  · refine (dif_pos h).trans (Eq.trans ?_ (dif_pos h).symm)
    exact row_cos ⟨k.val, by omega⟩ j
  · refine (dif_neg h).trans ?_
    rw [dif_neg h]

/-- The half table of sines. -/
theorem V_sin_half (c : Dev nD) (k : Fin 208) (j : Fin 384) : (V m c main_v31 : S208x384.Idx → EReal) (ValueIdx.ix2 k j)
    = if h : k.val < 193 then (sn ⟨k.val, by omega⟩ j : EReal) else 0 := by
  show (V0 m c (Proc.devRef .tc _)) _ = _
  rw [V0_eq]
  after_results
  pointwise
  by_cases h : k.val < 193
  · refine (dif_pos h).trans (Eq.trans ?_ (dif_pos h).symm)
    exact row_sin ⟨k.val, by omega⟩ j
  · refine (dif_neg h).trans ?_
    rw [dif_neg h]

/-- The images: the argument, its two leading axes joined. -/
theorem V_images (c : Dev nD) (n h w : Fin 384) : (V m c main_v1 : S384x384x384.Idx → EReal) (ValueIdx.ix3 n h w)
    = (m ((c : Thread nD τ).loc main_arg0) : S4x96x384x384.Idx → EReal) (ValueIdx.ix4 (⟨n.val / 96, by omega⟩ : Fin 4) (⟨n.val % 96, by omega⟩ : Fin 96) h w) := by
  show (V0 m c (Proc.devRef .tc _)) _ = _
  rw [V0_eq]
  after_results
  pointwise
  rfl

/-- Image `n` of the argument. -/
def image (x : S4x96x384x384.Idx → EReal) (n : Fin 384) (h w : Fin 384) : EReal :=
  x (ValueIdx.ix4 (⟨n.val / 96, by omega⟩ : Fin 4) (⟨n.val % 96, by omega⟩ : Fin 96) h w)

/-- The kernel's table for image `n` is the first half of the image's power spectrum. -/
theorem half (c : Dev nD) (n : Fin 384) : Count.Half (Twiddle.spec (image (m ((c : Thread nD τ).loc main_arg0)) n))
    (chunks (tabOf (V m c main_v30) (V m c main_v31) (V m c main_v32) (V m c main_v33) (V m c main_v1) n)) := by
  intro g r l
  unfold chunks tabOf
  refine (table_apply _ g r l).trans ?_
  have hx : ∀ h w, imgOf (V m c main_v1) n (ValueIdx.ix3 (0 : Fin 1) h w) = image (m ((c : Thread nD τ).loc main_arg0)) n h w := fun h w => V_images m c n h w
  have hs : ∀ a b : Fin 384, (V m c main_v32 : S384x384.Idx → EReal) (ValueIdx.ix2 a b) = (cs b a : EReal) := fun a b => (V_cos m c a b).trans (congrArg _ (cs_comm a b))
  have ht : ∀ a b : Fin 384, (V m c main_v33 : S384x384.Idx → EReal) (ValueIdx.ix2 a b) = (sn b a : EReal) := fun a b => (V_sin m c a b).trans (congrArg _ (sn_comm a b))
  by_cases h : 16 * g.val + r.val ≤ 192
  · rw [dif_pos h]
    exact pw_apply _ _ _ _ _ (at16 g r) l (cs ⟨16 * g.val + r.val, by omega⟩) (sn ⟨16 * g.val + r.val, by omega⟩) (cs l) (sn l) _
      (fun j => (V_cos_half m c (at16 g r) j).trans (dif_pos (Nat.lt_succ_of_le h)))
      (fun j => (V_sin_half m c (at16 g r) j).trans (dif_pos (Nat.lt_succ_of_le h)))
      (fun w => hs w l) (fun w => ht w l) hx
  · rw [dif_neg h]
    have hk : ¬ (at16 g r).val < 193 := fun h' => h (Nat.le_of_lt_succ h')
    exact (pw_apply _ _ _ _ _ (at16 g r) l (fun _ => 0) (fun _ => 0) (cs l) (sn l) _
      (fun j => (V_cos_half m c (at16 g r) j).trans (dif_neg hk))
      (fun j => (V_sin_half m c (at16 g r) j).trans (dif_neg hk))
      (fun w => hs w l) (fun w => ht w l) hx).trans (power_zero _ _ _)

end Cert.Proof.K

end
-- ==== Proof.K.RefValue.lean ====
/-
  What the reference computes: the square root of the power spectrum, and of each image's 147456 values the 16 largest.
-/
module

public import proofs.«01_k».proof.Proof.K.Twiddle
public import proofs.«01_k».proof.Proof.Gen.ReferenceIdeal.Read

@[expose] public section

noncomputable section

namespace Cert.Proof.Ref

open Idealize.ShloMosaic Idealize.ShloMosaic.TcCoe
open Cert.ReferenceIdeal Cert.ReferenceIdeal.Gen Cert.ReferenceIdeal.Read Cert.Proof.Power Cert.Proof.Twiddle Cert.Proof.Order

/-- The product's word as a real. -/
theorem word (k j : Fin 384) : val_main_v6 (F := Idealize.ShloMosaic.Ideal) (ValueIdx.ix2 k j) = ((((k.val : ℤ) * (j.val : ℤ) : ℤ) : ℝ) : EReal) := by
  rw [val_main_v6_apply, val_main_v5_apply, val_main_v3_apply, val_main_v4_apply, val_main_v1_apply, val_main_v2_apply, val_main_v0_apply, val_main_v0_apply]
  show ((((BitVec.ofNat 32 k.val * BitVec.ofNat 32 j.val)).toInt : ℝ) : EReal) = _
  rw [word_mul]

theorem cosines (k j : Fin 384) : val_main_v16 (F := Idealize.ShloMosaic.Ideal) (ValueIdx.ix2 k j) = (cs k j : EReal) := by
  rw [val_main_v16_apply, val_main_v13_apply, val_main_v12_apply, val_main_v10_apply, val_main_v9_apply, val_main_v8_apply,
    val_main_cst_0_apply, val_main_v7_apply, val_main_cst_apply, val_main_v11_apply, val_main_cst_1_apply, val_main_v15_apply,
    val_main_v14_apply, val_main_cst_2_apply, word]
  exact ref_cos _

theorem sines (k j : Fin 384) : val_main_v21 (F := Idealize.ShloMosaic.Ideal) (ValueIdx.ix2 k j) = (sn k j : EReal) := by
  rw [val_main_v21_apply, val_main_v18_apply, val_main_v17_apply, val_main_v12_apply, val_main_v10_apply, val_main_v9_apply, val_main_v8_apply,
    val_main_cst_0_apply, val_main_v7_apply, val_main_cst_apply, val_main_v11_apply, val_main_cst_1_apply, val_main_v20_apply,
    val_main_v19_apply, val_main_cst_3_apply, word]
  exact ref_sin _

variable (x0 : S4x96x384x384.Idx → EReal) (a : Fin 4) (b : Fin 96)

/-- An image of the argument. -/
abbrev img (h w : Fin 384) : EReal := x0 (ValueIdx.ix4 a b h w)

theorem row_cos (h l : Fin 384) : val_main_v22 (F := Idealize.ShloMosaic.Ideal) x0 (ValueIdx.ix4 a b h l) = ∑ w, (cs l w : EReal) * img x0 a b h w := by
  rw [val_main_v22_apply]
  refine Finset.sum_congr rfl fun w _ => ?_
  have e1 : lidx_main_v22 (ValueIdx.ix4 a b h l) w = ValueIdx.ix4 a b h w := funext fun k => by match k with | ⟨0, _⟩ => rfl | ⟨1, _⟩ => rfl | ⟨2, _⟩ => rfl | ⟨3, _⟩ => rfl
  have e2 : ridx_main_v22 (ValueIdx.ix4 a b h l) w = ValueIdx.ix2 w l := funext fun k => by match k with | ⟨0, _⟩ => rfl | ⟨1, _⟩ => rfl
  rw [e1, e2, cosines, cs_comm, mul_comm]

theorem row_sin (h l : Fin 384) : val_main_v23 (F := Idealize.ShloMosaic.Ideal) x0 (ValueIdx.ix4 a b h l) = ∑ w, (sn l w : EReal) * img x0 a b h w := by
  rw [val_main_v23_apply]
  refine Finset.sum_congr rfl fun w _ => ?_
  have e1 : lidx_main_v23 (ValueIdx.ix4 a b h l) w = ValueIdx.ix4 a b h w := funext fun k => by match k with | ⟨0, _⟩ => rfl | ⟨1, _⟩ => rfl | ⟨2, _⟩ => rfl | ⟨3, _⟩ => rfl
  have e2 : ridx_main_v23 (ValueIdx.ix4 a b h l) w = ValueIdx.ix2 w l := funext fun k => by match k with | ⟨0, _⟩ => rfl | ⟨1, _⟩ => rfl
  rw [e1, e2, sines, sn_comm, mul_comm]

/-- The index of a sum over rows, before the transposition. -/
theorem left_idx (k l h : Fin 384) : lidx_main_v24 (idx_main_v25 (ValueIdx.ix4 a b k l)) h = ValueIdx.ix4 a b h l :=
  funext fun k => by match k with | ⟨0, _⟩ => rfl | ⟨1, _⟩ => rfl | ⟨2, _⟩ => rfl | ⟨3, _⟩ => rfl
theorem right_idx (k l h : Fin 384) : ridx_main_v24 (idx_main_v25 (ValueIdx.ix4 a b k l)) h = ValueIdx.ix2 k h :=
  funext fun k => by match k with | ⟨0, _⟩ => rfl | ⟨1, _⟩ => rfl

theorem real_part (k l : Fin 384) : val_main_v28 (F := Idealize.ShloMosaic.Ideal) x0 (ValueIdx.ix4 a b k l)
    = re (cs l) (sn l) (cs k) (sn k) fun w h => img x0 a b h w := by
  rw [val_main_v28_apply, val_main_v25_apply, val_main_v27_apply, val_main_v24_apply, val_main_v26_apply]
  unfold re
  refine congrArg₂ (fun u v : EReal => u - v) (Finset.sum_congr rfl fun h _ => ?_) (Finset.sum_congr rfl fun h _ => ?_)
  · rw [left_idx, right_idx, row_cos, cosines]
  · refine Eq.trans (congrArg₂ (fun u v : EReal => u * v) (congrArg (val_main_v23 (F := Idealize.ShloMosaic.Ideal) x0) (left_idx a b k l h)) (congrArg (val_main_v21 (F := Idealize.ShloMosaic.Ideal)) (right_idx a b k l h))) ?_
    rw [row_sin, sines]

theorem imag_part (k l : Fin 384) : val_main_v33 (F := Idealize.ShloMosaic.Ideal) x0 (ValueIdx.ix4 a b k l)
    = im (cs l) (sn l) (cs k) (sn k) fun w h => img x0 a b h w := by
  rw [val_main_v33_apply, val_main_v30_apply, val_main_v32_apply, val_main_v29_apply, val_main_v31_apply]
  unfold im
  rw [add_comm (∑ w, (∑ h, (cs l h : EReal) * img x0 a b w h) * (sn k w : EReal))]
  refine congrArg₂ (fun u v : EReal => u + v) (Finset.sum_congr rfl fun h _ => ?_) (Finset.sum_congr rfl fun h _ => ?_)
  · refine Eq.trans (congrArg₂ (fun u v : EReal => u * v) (congrArg (val_main_v23 (F := Idealize.ShloMosaic.Ideal) x0) (left_idx a b k l h)) (congrArg (val_main_v16 (F := Idealize.ShloMosaic.Ideal)) (right_idx a b k l h))) ?_
    rw [row_sin, cosines]
  · refine Eq.trans (congrArg₂ (fun u v : EReal => u * v) (congrArg (val_main_v22 (F := Idealize.ShloMosaic.Ideal) x0) (left_idx a b k l h)) (congrArg (val_main_v21 (F := Idealize.ShloMosaic.Ideal)) (right_idx a b k l h))) ?_
    rw [row_cos, sines]

/-- The modulus is the square root of the power. -/
theorem modulus (k l : Fin 384) : val_main_v37 (F := Idealize.ShloMosaic.Ideal) x0 (ValueIdx.ix4 a b k l) = Ideal.sqrt (spec (img x0 a b) k l) := by
  rw [val_main_v37_apply, val_main_v36_apply, val_main_v34_apply, val_main_v35_apply, real_part, imag_part]
  exact congrArg Ideal.sqrt (power_swap (live_row k) (live_row l) (img x0 a b))

end Cert.Proof.Ref

end
-- ==== Proof.K.RefTop.lean ====
/-
  The reference's `j`-th value is the square root of the `j`-th largest power.
-/
module

public import proofs.«01_k».proof.Proof.K.RefValue

@[expose] public section

noncomputable section

namespace Cert.Proof.Ref

open Idealize.ShloMosaic Idealize.ShloMosaic.TcCoe
open Cert.ReferenceIdeal Cert.ReferenceIdeal.Gen Cert.ReferenceIdeal.Read Cert.Proof.Power Cert.Proof.Twiddle Cert.Proof.Order

/-- Square roots compare as what is under them. -/
theorem sqrt_lt {u v : EReal} (hu : 0 ≤ u) (hv : 0 ≤ v) : Ideal.sqrt u < Ideal.sqrt v ↔ u < v := by
  have hb : ∀ {w : EReal}, 0 ≤ w → w ≠ ⊥ := fun h => ne_of_gt (lt_of_lt_of_le (EReal.bot_lt_coe 0) h)
  induction u using EReal.rec with
  | bot => exact absurd rfl (hb hu)
  | top =>
    constructor
    · intro h; exact absurd h (not_lt.2 (le_top (a := Ideal.sqrt v)))
    · intro h; exact absurd h not_top_lt
  | coe r =>
    have hr : ¬ r < 0 := not_lt.2 (by exact_mod_cast hu)
    rw [Ideal.sqrt_coe, if_neg hr]
    induction v using EReal.rec with
    | bot => exact absurd rfl (hb hv)
    | top => exact ⟨fun _ => EReal.coe_lt_top r, fun _ => EReal.coe_lt_top _⟩
    | coe q =>
      have hq : ¬ q < 0 := not_lt.2 (by exact_mod_cast hv)
      rw [Ideal.sqrt_coe, if_neg hq, EReal.coe_lt_coe_iff, EReal.coe_lt_coe_iff]
      exact Real.sqrt_lt_sqrt_iff (not_lt.1 hr)

theorem sqrt_le {u v : EReal} (hu : 0 ≤ u) (hv : 0 ≤ v) : Ideal.sqrt u ≤ Ideal.sqrt v ↔ u ≤ v := by
  rw [← not_lt, sqrt_lt hv hu, not_lt]

/-- The order of the reference's top-k along one image. -/
def before (y : S4x96x147456.Idx → EReal) (a : Fin 4) (b : Fin 96) (k k' : Fin 147456) : Bool :=
  FloatOps.cmpfTotal (F := Idealize.ShloMosaic.Ideal) (φ := .f32) .gt (y (ValueIdx.ix3 a b k)) (y (ValueIdx.ix3 a b k')) == 1#1

theorem before_iff (y : S4x96x147456.Idx → EReal) (a : Fin 4) (b : Fin 96) (k k' : Fin 147456) :
    before y a b k k' = true ↔ y (ValueIdx.ix3 a b k') < y (ValueIdx.ix3 a b k) := by
  unfold before
  rw [Ideal.cmpfTotal_def]
  unfold Ideal.cmp CmpDirection.ordered
  by_cases h : y (ValueIdx.ix3 a b k') < y (ValueIdx.ix3 a b k)
  · simp [h]
  · simp [h]

theorem along (h : 2 < S4x96x147456.rank) (a : Fin 4) (b : Fin 96) (j k : Fin 147456) :
    Shape.Idx.along (s := S4x96x147456) (ValueIdx.ix3 a b j) ⟨2, h⟩ k = ValueIdx.ix3 a b k := by
  funext x
  match x with
  | ⟨0, _⟩ => rfl
  | ⟨1, _⟩ => rfl
  | ⟨2, _⟩ => rfl

/-- A sorted array's entry is the operand's entry at the sorted position. -/
theorem sort_apply {β : Type} (y : S4x96x147456.Idx → EReal) (z : S4x96x147456.Idx → β) (a : Fin 4) (b : Fin 96) (j : Fin 147456) :
    (Host.sort2 S4x96x147456 2 (fun l r => FloatOps.cmpfTotal (F := Idealize.ShloMosaic.Ideal) (φ := .f32) .gt l.1 r.1) y z).1 (ValueIdx.ix3 a b j)
      = y (ValueIdx.ix3 a b (sortedFrom (before y a b) j)) := by
  have h : 2 < S4x96x147456.rank := by decide
  unfold Host.sort2
  rw [dif_pos h]
  simp only
  refine congrArg y ((along h a b _ _).trans ?_)
  refine congrArg (fun R => (ValueIdx.ix3 a b (sortedFrom R j) : S4x96x147456.Idx)) ?_
  funext k k'
  unfold before
  exact congrArg₂ (fun u v => FloatOps.cmpfTotal (F := Idealize.ShloMosaic.Ideal) (φ := .f32) .gt (y u) (y v) == 1#1) (along h a b _ k) (along h a b _ k')

/-- A top-k entry is the operand's entry at the sorted position. -/
theorem topk_apply (y : S4x96x147456.Idx → EReal) (a : Fin 4) (b : Fin 96) (j : Fin 16) :
    (Host.topK S4x96x16 2 (FloatOps.cmpfTotal (F := Idealize.ShloMosaic.Ideal) (φ := .f32) .gt) y sliceFits_S4x96x147456_S4x96x16).1 (ValueIdx.ix3 a b j)
      = y (ValueIdx.ix3 a b (sortedFrom (before y a b) ⟨j.val, by omega⟩)) := by
  have h := sort_apply y (fun i => if hd : 2 < S4x96x147456.rank then iotaInDim S4x96x147456 32 ⟨2, hd⟩ i else 0#32) a b ⟨j.val, by omega⟩
  refine Eq.trans ?_ h
  unfold Host.topK
  dsimp only
  refine extractStridedSlice_apply (s := S4x96x147456) (t := S4x96x16) (fun _ => 0) _ sliceFits_S4x96x147456_S4x96x16 (ValueIdx.ix3 a b j) (ValueIdx.ix3 a b (⟨j.val, by omega⟩ : Fin 147456)) fun x => ?_
  match x with
  | ⟨0, _⟩ => exact (Nat.zero_add _).symm
  | ⟨1, _⟩ => exact (Nat.zero_add _).symm
  | ⟨2, _⟩ => exact (Nat.zero_add _).symm

/-- The flat position as row and column. -/
theorem flat_apply (x0 : S4x96x384x384.Idx → EReal) (a : Fin 4) (b : Fin 96) (i : Fin 147456) :
    val_main_v38 (F := Idealize.ShloMosaic.Ideal) x0 (ValueIdx.ix3 a b i)
      = Ideal.sqrt (spec (img x0 a b) ⟨i.val / 384, by omega⟩ ⟨i.val % 384, by omega⟩) := by
  rw [val_main_v38_apply, ← modulus]
  refine congrArg (val_main_v37 (F := Idealize.ShloMosaic.Ideal) x0) (funext fun k => Fin.ext ?_)
  have := a.isLt
  have := b.isLt
  have := i.isLt
  match k with
  | ⟨0, _⟩ => show ((a.val * 96 + b.val) * 147456 + i.val) / 14155776 = a.val; omega
  | ⟨1, _⟩ => show ((a.val * 96 + b.val) * 147456 + i.val) / 147456 % 96 = b.val; omega
  | ⟨2, _⟩ => show ((a.val * 96 + b.val) * 147456 + i.val) / 384 % 384 = i.val / 384; omega
  | ⟨3, _⟩ => show ((a.val * 96 + b.val) * 147456 + i.val) % 384 = i.val % 384; omega

/-- The flat positions, as rows and columns. -/
def flatE : Fin 147456 ≃ Fin 384 × Fin 384 where
  toFun i := (⟨i.val / 384, by omega⟩, ⟨i.val % 384, by omega⟩)
  invFun p := ⟨384 * p.1.val + p.2.val, by omega⟩
  left_inv i := Fin.ext (by show 384 * (i.val / 384) + i.val % 384 = i.val; omega)
  right_inv p := Prod.ext (Fin.ext (by show (384 * p.1.val + p.2.val) / 384 = p.1.val; omega))
    (Fin.ext (by show (384 * p.1.val + p.2.val) % 384 = p.2.val; omega))

/-- The reference's lane `j`. -/
theorem lane (x0 : S4x96x384x384.Idx → EReal) (a : Fin 4) (b : Fin 96) (j : Fin 16) :
    ∃ v, 0 ≤ v ∧ val_main_values (F := Idealize.ShloMosaic.Ideal) x0 (ValueIdx.ix3 a b j) = Ideal.sqrt v
      ∧ IsNth (fun _ => 1) (fun i : Fin 384 × Fin 384 => spec (img x0 a b) i.1 i.2) j.val v := by
  set y := val_main_v38 (F := Idealize.ShloMosaic.Ideal) x0 with hy
  set p := sortedFrom (before y a b) ⟨j.val, by omega⟩ with hp
  have hf : ∀ i, y (ValueIdx.ix3 a b i) = Ideal.sqrt (spec (img x0 a b) (flatE i).1 (flatE i).2) := fun i => flat_apply x0 a b i
  have hn := fun i : Fin 384 × Fin 384 => spec_nonneg (img x0 a b) i.1 i.2
  refine ⟨spec (img x0 a b) (flatE p).1 (flatE p).2, hn _, ?_, ?_⟩
  · rw [← hf p]
    exact topk_apply y a b j
  · have h := Count.sorted_isNth (fun i => y (ValueIdx.ix3 a b i)) ⟨j.val, by omega⟩ (before y a b) (before_iff y a b)
    rw [← hp] at h
    simp only [hf] at h
    unfold IsNth above atLeast at h ⊢
    rw [← Equiv.sum_comp flatE, ← Equiv.sum_comp flatE (fun i => if _ ≤ _ then 1 else 0)]
    refine ⟨le_trans (le_of_eq (Finset.sum_congr rfl fun i _ => if_congr ?_ rfl rfl)) h.1, lt_of_lt_of_eq h.2 (Finset.sum_congr rfl fun i _ => if_congr ?_ rfl rfl)⟩
    · exact (sqrt_lt (hn _) (hn _)).symm
    · exact sqrt_le (hn _) (hn _)

end Cert.Proof.Ref

end
-- ==== Proof.K.Final.lean ====
/-
  The two programs' outputs agree.
-/
module

public import proofs.«01_k».proof.Defs
public import proofs.«01_k».proof.Proof.K.Tables
public import proofs.«01_k».proof.Proof.K.RefTop
public import proofs.«01_k».proof.Proof.Gen.ReferenceIdeal.Run
public import proofs.«01_k».proof.Proof.Gen.ReferenceIdeal

@[expose] public section

noncomputable section

namespace Cert.Proof.K

open Idealize.ShloMosaic Idealize.ShloMosaic.TcCoe Idealize.SL.Sem
open Cert.KernelIdeal Cert.KernelIdeal.Gen Cert.Proof.Power Cert.Proof.Stream Cert.Proof.Twiddle Cert.Proof.Order

variable (m : (ℓ : Loc nD τ sig) → Buf (Elt Idealize.ShloMosaic.Ideal) ℓ)

/-- The image's number in the flat order. -/
def number (a : Fin 4) (b : Fin 96) : Fin 384 := ⟨96 * a.val + b.val, by omega⟩

theorem image_number (x : S4x96x384x384.Idx → EReal) (a : Fin 4) (b : Fin 96) : image x (number a b) = Ref.img x a b := by
  funext h w
  unfold image Ref.img number
  exact congrArg₂ (fun (u : Fin 4) (v : Fin 96) => x (ValueIdx.ix4 u v h w))
    (Fin.ext (show (96 * a.val + b.val) / 96 = a.val by omega)) (Fin.ext (show (96 * a.val + b.val) % 96 = b.val by omega))

/-- The reshaped output's entry. -/
theorem cast_out (y : S384x1x16.Idx → EReal) (a : Fin 4) (b : Fin 96) (j : Fin 16) :
    shapeCast S4x96x16 y shapeCasts_S384x1x16_S4x96x16 (ValueIdx.ix3 a b j) = y (ValueIdx.ix3 (number a b) (0 : Fin 1) j) := by
  refine shapeCast_apply _ _ _ _ ?_
  rw [Shape.rowMajor_val_three, Shape.rowMajor_val_three]
  show ((96 * a.val + b.val) * 1 + 0) * 16 + j.val = (a.val * 96 + b.val) * 16 + j.val
  omega

/-- The kernel's lane is the reference's lane of the same argument. -/
theorem lane_eq (c : Dev nD) (a : Fin 4) (b : Fin 96) (j : Fin 16) :
    outOf (V m c main_v30) (V m c main_v31) (V m c main_v32) (V m c main_v33) (V m c main_v1) (ValueIdx.ix3 (number a b) (0 : Fin 1) j)
      = Cert.ReferenceIdeal.Read.val_main_values (F := Idealize.ShloMosaic.Ideal) (m ((c : Thread nD τ).loc main_arg0)) (ValueIdx.ix3 a b j) := by
  obtain ⟨v, h0, hv, h⟩ := Ref.lane (m ((c : Thread nD τ).loc main_arg0)) a b j
  refine Eq.trans ?_ hv.symm
  refine congrArg Idealize.ShloMosaic.Ideal.sqrt ?_
  have h' : IsNth (fun _ => 1) (fun i : Fin 384 × Fin 384 => Twiddle.spec (image (m ((c : Thread nD τ).loc main_arg0)) (number a b)) i.1 i.2) j.val v :=
    (congrArg (fun X => IsNth (fun _ => 1) (fun i : Fin 384 × Fin 384 => Twiddle.spec X i.1 i.2) j.val v)
      (image_number (m ((c : Thread nD τ).loc main_arg0)) a b)).mpr h
  exact ranked_eq h0 (Count.isNth_half (spec_sym _) (half m c (number a b)) (spec_nonneg _) j.isLt h0 h')

/-- What the kernel leaves is the reference's value of the same argument. -/
theorem out_eq (c : Dev nD) : Pipeline.afterTail₀ cfgs (dats m) 0 (V0 m) [hostOps1] c main_v35
    = Cert.ReferenceIdeal.Read.val_main_values (F := Idealize.ShloMosaic.Ideal) (m ((c : Thread nD τ).loc main_arg0)) := by
  rw [tail_out, arr_out]
  funext i
  rw [ValueIdx.eq_ix3 i]
  exact (cast_out _ _ _ _).trans (lane_eq m c _ _ _)

/-- The kernel's values are the reference's. -/
theorem algebraic : Cert.algebraic_KernelIdeal_ReferenceIdeal := by
  intro m g m' g' _ hm
  refine ⟨fun c => Cert.ReferenceIdeal.Read.val_main_values (F := Idealize.ShloMosaic.Ideal) (m ((c : Thread nD τ).loc main_arg0)), ?_, ?_⟩
  · exact θ_run_mono (run m g _ (out_eq m) (tail_arg m)) fun r h => h.1
  · exact θ_run_mono (Cert.ReferenceIdeal.Value.run m' g') fun r h c =>
      ⟨(h c).1.trans ((Cert.ReferenceIdeal.Read.val_main_values_eq m' c).trans (congrArg _ (hm c))), (h c).2⟩

end Cert.Proof.K

end
-- ==== Proof.lean ====
/- The proof of the claims: both programs end with their argument unchanged and every counter at zero, and their outputs agree. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal.Read
public import proofs.«01_k».proof.Proof.Gen.ReferenceIdeal
public import proofs.«01_k».proof.Proof.K.Frames
public import proofs.«01_k».proof.Proof.K.Final
public import Idealize.ShloMosaic.Adequacy
public import Idealize.ShloMosaic.Init

@[expose] public section

noncomputable section

namespace Cert.Proof

open Idealize.ShloMosaic Idealize.SL.Sem Cert.KernelIdeal

theorem claim : Cert.Claim :=
  ⟨Cert.KernelIdeal.Gen.facts, Cert.ReferenceIdeal.Gen.facts, K.frame_kernel, K.frame_reference, K.algebraic⟩

end Cert.Proof

end
